-- ==== Defs.lean ====
def Pre_Main (m : (ℓ : Loc Cert.Main.nD Cert.Main.τ Cert.Main.sig) → Buf (Elt Bits) ℓ) : Prop :=
  True

def Pre_MainIdeal (m : (ℓ : Loc Cert.MainIdeal.nD Cert.MainIdeal.τ Cert.MainIdeal.sig) → Buf (Elt Ideal) ℓ) : Prop :=
  True

def Pre_MainRefIdeal (m : (ℓ : Loc Cert.MainRefIdeal.nD Cert.MainRefIdeal.τ Cert.MainRefIdeal.sig) → Buf (Elt Ideal) ℓ) : Prop :=
  True

def Pre_Lora (m : (ℓ : Loc Cert.Lora.nD Cert.Lora.τ Cert.Lora.sig) → Buf (Elt Bits) ℓ) : Prop :=
  True

def Pre_LoraIdeal (m : (ℓ : Loc Cert.LoraIdeal.nD Cert.LoraIdeal.τ Cert.LoraIdeal.sig) → Buf (Elt Ideal) ℓ) : Prop :=
  True

def Pre_LoraRefIdeal (m : (ℓ : Loc Cert.LoraRefIdeal.nD Cert.LoraRefIdeal.τ Cert.LoraRefIdeal.sig) → Buf (Elt Ideal) ℓ) : Prop :=
  True

def quiescent_Main [hMain : Cert.Main.Facts] : Prop :=
  ∀ (m : (ℓ : Loc Cert.Main.nD Cert.Main.τ Cert.Main.sig) → Buf (Elt Bits) ℓ) (g : Dev Cert.Main.nD → PrngReg), Pre_Main m →
    θ_run (Cert.Main.defs (F := Bits)) (onTc (τ := Cert.Main.τ) (Cert.Main.main (F := Bits))) ⟨m, fun _ => 0, g⟩ (fun r => (∀ c : Dev Cert.Main.nD,
      r.2.mem ((c.tc : Thread Cert.Main.nD Cert.Main.τ).loc Cert.Main.main_arg0) = m ((c.tc : Thread Cert.Main.nD Cert.Main.τ).loc Cert.Main.main_arg0)
      ∧ r.2.mem ((c.tc : Thread Cert.Main.nD Cert.Main.τ).loc Cert.Main.main_arg1) = m ((c.tc : Thread Cert.Main.nD Cert.Main.τ).loc Cert.Main.main_arg1)
      ∧ r.2.mem ((c.tc : Thread Cert.Main.nD Cert.Main.τ).loc Cert.Main.main_arg2) = m ((c.tc : Thread Cert.Main.nD Cert.Main.τ).loc Cert.Main.main_arg2)
      ∧ r.2.mem ((c.tc : Thread Cert.Main.nD Cert.Main.τ).loc Cert.Main.main_arg3) = m ((c.tc : Thread Cert.Main.nD Cert.Main.τ).loc Cert.Main.main_arg3)
      ∧ r.2.mem ((c.tc : Thread Cert.Main.nD Cert.Main.τ).loc Cert.Main.main_arg4) = m ((c.tc : Thread Cert.Main.nD Cert.Main.τ).loc Cert.Main.main_arg4)
      ∧ r.2.mem ((c.tc : Thread Cert.Main.nD Cert.Main.τ).loc Cert.Main.main_arg5) = m ((c.tc : Thread Cert.Main.nD Cert.Main.τ).loc Cert.Main.main_arg5)
      ∧ r.2.mem ((c.tc : Thread Cert.Main.nD Cert.Main.τ).loc Cert.Main.main_arg6) = m ((c.tc : Thread Cert.Main.nD Cert.Main.τ).loc Cert.Main.main_arg6)
      ∧ r.2.mem ((c.tc : Thread Cert.Main.nD Cert.Main.τ).loc Cert.Main.main_arg7) = m ((c.tc : Thread Cert.Main.nD Cert.Main.τ).loc Cert.Main.main_arg7))
      ∧ r.2.sem = fun _ => 0)

def quiescent_MainIdeal [hMainIdeal : Cert.MainIdeal.Facts] : Prop :=
  ∀ (m : (ℓ : Loc Cert.MainIdeal.nD Cert.MainIdeal.τ Cert.MainIdeal.sig) → Buf (Elt Ideal) ℓ) (g : Dev Cert.MainIdeal.nD → PrngReg), Pre_MainIdeal m →
    θ_run (Cert.MainIdeal.defs (F := Ideal)) (onTc (τ := Cert.MainIdeal.τ) (Cert.MainIdeal.main (F := Ideal))) ⟨m, fun _ => 0, g⟩ (fun r => (∀ c : Dev Cert.MainIdeal.nD,
      r.2.mem ((c.tc : Thread Cert.MainIdeal.nD Cert.MainIdeal.τ).loc Cert.MainIdeal.main_arg0) = m ((c.tc : Thread Cert.MainIdeal.nD Cert.MainIdeal.τ).loc Cert.MainIdeal.main_arg0)
      ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
      ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
      ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
      ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
      ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
      ∧ r.2.mem ((c.tc : Thread Cert.MainIdeal.nD Cert.MainIdeal.τ).loc Cert.MainIdeal.main_arg6) = m ((c.tc : Thread Cert.MainIdeal.nD Cert.MainIdeal.τ).loc Cert.MainIdeal.main_arg6)
      ∧ r.2.mem ((c.tc : Thread Cert.MainIdeal.nD Cert.MainIdeal.τ).loc Cert.MainIdeal.main_arg7) = m ((c.tc : Thread Cert.MainIdeal.nD Cert.MainIdeal.τ).loc Cert.MainIdeal.main_arg7))
      ∧ r.2.sem = fun _ => 0)

def quiescent_MainRefIdeal [hMainRefIdeal : Cert.MainRefIdeal.Facts] : Prop :=
  ∀ (m : (ℓ : Loc Cert.MainRefIdeal.nD Cert.MainRefIdeal.τ Cert.MainRefIdeal.sig) → Buf (Elt Ideal) ℓ) (g : Dev Cert.MainRefIdeal.nD → PrngReg), Pre_MainRefIdeal m →
    θ_run (Cert.MainRefIdeal.defs (F := Ideal)) (onTc (τ := Cert.MainRefIdeal.τ) (Cert.MainRefIdeal.main (F := Ideal))) ⟨m, fun _ => 0, g⟩ (fun r => (∀ c : Dev Cert.MainRefIdeal.nD,
      r.2.mem ((c.tc : Thread Cert.MainRefIdeal.nD Cert.MainRefIdeal.τ).loc Cert.MainRefIdeal.main_arg0) = m ((c.tc : Thread Cert.MainRefIdeal.nD Cert.MainRefIdeal.τ).loc Cert.MainRefIdeal.main_arg0)
      ∧ r.2.mem ((c.tc : Thread Cert.MainRefIdeal.nD Cert.MainRefIdeal.τ).loc Cert.MainRefIdeal.main_arg1) = m ((c.tc : Thread Cert.MainRefIdeal.nD Cert.MainRefIdeal.τ).loc Cert.MainRefIdeal.main_arg1)
      ∧ r.2.mem ((c.tc : Thread Cert.MainRefIdeal.nD Cert.MainRefIdeal.τ).loc Cert.MainRefIdeal.main_arg2) = m ((c.tc : Thread Cert.MainRefIdeal.nD Cert.MainRefIdeal.τ).loc Cert.MainRefIdeal.main_arg2)
      ∧ r.2.mem ((c.tc : Thread Cert.MainRefIdeal.nD Cert.MainRefIdeal.τ).loc Cert.MainRefIdeal.main_arg3) = m ((c.tc : Thread Cert.MainRefIdeal.nD Cert.MainRefIdeal.τ).loc Cert.MainRefIdeal.main_arg3)
      ∧ r.2.mem ((c.tc : Thread Cert.MainRefIdeal.nD Cert.MainRefIdeal.τ).loc Cert.MainRefIdeal.main_arg4) = m ((c.tc : Thread Cert.MainRefIdeal.nD Cert.MainRefIdeal.τ).loc Cert.MainRefIdeal.main_arg4)
      ∧ r.2.mem ((c.tc : Thread Cert.MainRefIdeal.nD Cert.MainRefIdeal.τ).loc Cert.MainRefIdeal.main_arg5) = m ((c.tc : Thread Cert.MainRefIdeal.nD Cert.MainRefIdeal.τ).loc Cert.MainRefIdeal.main_arg5)
      ∧ r.2.mem ((c.tc : Thread Cert.MainRefIdeal.nD Cert.MainRefIdeal.τ).loc Cert.MainRefIdeal.main_arg6) = m ((c.tc : Thread Cert.MainRefIdeal.nD Cert.MainRefIdeal.τ).loc Cert.MainRefIdeal.main_arg6)
      ∧ r.2.mem ((c.tc : Thread Cert.MainRefIdeal.nD Cert.MainRefIdeal.τ).loc Cert.MainRefIdeal.main_arg7) = m ((c.tc : Thread Cert.MainRefIdeal.nD Cert.MainRefIdeal.τ).loc Cert.MainRefIdeal.main_arg7))
      ∧ r.2.sem = fun _ => 0)

def quiescent_Lora [hLora : Cert.Lora.Facts] : Prop :=
  ∀ (m : (ℓ : Loc Cert.Lora.nD Cert.Lora.τ Cert.Lora.sig) → Buf (Elt Bits) ℓ) (g : Dev Cert.Lora.nD → PrngReg), Pre_Lora m →
    θ_run (Cert.Lora.defs (F := Bits)) (onTc (τ := Cert.Lora.τ) (Cert.Lora.main (F := Bits))) ⟨m, fun _ => 0, g⟩ (fun r => (∀ c : Dev Cert.Lora.nD,
      r.2.mem ((c.tc : Thread Cert.Lora.nD Cert.Lora.τ).loc Cert.Lora.main_arg0) = m ((c.tc : Thread Cert.Lora.nD Cert.Lora.τ).loc Cert.Lora.main_arg0)
      ∧ r.2.mem ((c.tc : Thread Cert.Lora.nD Cert.Lora.τ).loc Cert.Lora.main_arg1) = m ((c.tc : Thread Cert.Lora.nD Cert.Lora.τ).loc Cert.Lora.main_arg1)
      ∧ r.2.mem ((c.tc : Thread Cert.Lora.nD Cert.Lora.τ).loc Cert.Lora.main_arg2) = m ((c.tc : Thread Cert.Lora.nD Cert.Lora.τ).loc Cert.Lora.main_arg2)
      ∧ r.2.mem ((c.tc : Thread Cert.Lora.nD Cert.Lora.τ).loc Cert.Lora.main_arg3) = m ((c.tc : Thread Cert.Lora.nD Cert.Lora.τ).loc Cert.Lora.main_arg3)
      ∧ r.2.mem ((c.tc : Thread Cert.Lora.nD Cert.Lora.τ).loc Cert.Lora.main_arg4) = m ((c.tc : Thread Cert.Lora.nD Cert.Lora.τ).loc Cert.Lora.main_arg4)
      ∧ r.2.mem ((c.tc : Thread Cert.Lora.nD Cert.Lora.τ).loc Cert.Lora.main_arg5) = m ((c.tc : Thread Cert.Lora.nD Cert.Lora.τ).loc Cert.Lora.main_arg5))
      ∧ r.2.sem = fun _ => 0)

def quiescent_LoraIdeal [hLoraIdeal : Cert.LoraIdeal.Facts] : Prop :=
  ∀ (m : (ℓ : Loc Cert.LoraIdeal.nD Cert.LoraIdeal.τ Cert.LoraIdeal.sig) → Buf (Elt Ideal) ℓ) (g : Dev Cert.LoraIdeal.nD → PrngReg), Pre_LoraIdeal m →
    θ_run (Cert.LoraIdeal.defs (F := Ideal)) (onTc (τ := Cert.LoraIdeal.τ) (Cert.LoraIdeal.main (F := Ideal))) ⟨m, fun _ => 0, g⟩ (fun r => (∀ c : Dev Cert.LoraIdeal.nD,
      r.2.mem ((c.tc : Thread Cert.LoraIdeal.nD Cert.LoraIdeal.τ).loc Cert.LoraIdeal.main_arg0) = m ((c.tc : Thread Cert.LoraIdeal.nD Cert.LoraIdeal.τ).loc Cert.LoraIdeal.main_arg0)
      ∧ r.2.mem ((c.tc : Thread Cert.LoraIdeal.nD Cert.LoraIdeal.τ).loc Cert.LoraIdeal.main_arg1) = m ((c.tc : Thread Cert.LoraIdeal.nD Cert.LoraIdeal.τ).loc Cert.LoraIdeal.main_arg1)
      ∧ r.2.mem ((c.tc : Thread Cert.LoraIdeal.nD Cert.LoraIdeal.τ).loc Cert.LoraIdeal.main_arg2) = m ((c.tc : Thread Cert.LoraIdeal.nD Cert.LoraIdeal.τ).loc Cert.LoraIdeal.main_arg2)
      ∧ r.2.mem ((c.tc : Thread Cert.LoraIdeal.nD Cert.LoraIdeal.τ).loc Cert.LoraIdeal.main_arg3) = m ((c.tc : Thread Cert.LoraIdeal.nD Cert.LoraIdeal.τ).loc Cert.LoraIdeal.main_arg3)
      ∧ r.2.mem ((c.tc : Thread Cert.LoraIdeal.nD Cert.LoraIdeal.τ).loc Cert.LoraIdeal.main_arg4) = m ((c.tc : Thread Cert.LoraIdeal.nD Cert.LoraIdeal.τ).loc Cert.LoraIdeal.main_arg4)
      ∧ r.2.mem ((c.tc : Thread Cert.LoraIdeal.nD Cert.LoraIdeal.τ).loc Cert.LoraIdeal.main_arg5) = m ((c.tc : Thread Cert.LoraIdeal.nD Cert.LoraIdeal.τ).loc Cert.LoraIdeal.main_arg5))
      ∧ r.2.sem = fun _ => 0)

def quiescent_LoraRefIdeal [hLoraRefIdeal : Cert.LoraRefIdeal.Facts] : Prop :=
  ∀ (m : (ℓ : Loc Cert.LoraRefIdeal.nD Cert.LoraRefIdeal.τ Cert.LoraRefIdeal.sig) → Buf (Elt Ideal) ℓ) (g : Dev Cert.LoraRefIdeal.nD → PrngReg), Pre_LoraRefIdeal m →
    θ_run (Cert.LoraRefIdeal.defs (F := Ideal)) (onTc (τ := Cert.LoraRefIdeal.τ) (Cert.LoraRefIdeal.main (F := Ideal))) ⟨m, fun _ => 0, g⟩ (fun r => (∀ c : Dev Cert.LoraRefIdeal.nD,
      r.2.mem ((c.tc : Thread Cert.LoraRefIdeal.nD Cert.LoraRefIdeal.τ).loc Cert.LoraRefIdeal.main_arg0) = m ((c.tc : Thread Cert.LoraRefIdeal.nD Cert.LoraRefIdeal.τ).loc Cert.LoraRefIdeal.main_arg0)
      ∧ r.2.mem ((c.tc : Thread Cert.LoraRefIdeal.nD Cert.LoraRefIdeal.τ).loc Cert.LoraRefIdeal.main_arg1) = m ((c.tc : Thread Cert.LoraRefIdeal.nD Cert.LoraRefIdeal.τ).loc Cert.LoraRefIdeal.main_arg1)
      ∧ r.2.mem ((c.tc : Thread Cert.LoraRefIdeal.nD Cert.LoraRefIdeal.τ).loc Cert.LoraRefIdeal.main_arg2) = m ((c.tc : Thread Cert.LoraRefIdeal.nD Cert.LoraRefIdeal.τ).loc Cert.LoraRefIdeal.main_arg2)
      ∧ r.2.mem ((c.tc : Thread Cert.LoraRefIdeal.nD Cert.LoraRefIdeal.τ).loc Cert.LoraRefIdeal.main_arg3) = m ((c.tc : Thread Cert.LoraRefIdeal.nD Cert.LoraRefIdeal.τ).loc Cert.LoraRefIdeal.main_arg3)
      ∧ r.2.mem ((c.tc : Thread Cert.LoraRefIdeal.nD Cert.LoraRefIdeal.τ).loc Cert.LoraRefIdeal.main_arg4) = m ((c.tc : Thread Cert.LoraRefIdeal.nD Cert.LoraRefIdeal.τ).loc Cert.LoraRefIdeal.main_arg4)
      ∧ r.2.mem ((c.tc : Thread Cert.LoraRefIdeal.nD Cert.LoraRefIdeal.τ).loc Cert.LoraRefIdeal.main_arg5) = m ((c.tc : Thread Cert.LoraRefIdeal.nD Cert.LoraRefIdeal.τ).loc Cert.LoraRefIdeal.main_arg5))
      ∧ r.2.sem = fun _ => 0)

def preserves_Main_MainIdeal : Prop :=
  True

def algebraic_MainIdeal_MainRefIdeal [hMainIdeal : Cert.MainIdeal.Facts] [hMainRefIdeal : Cert.MainRefIdeal.Facts] : Prop :=
  ∀ (m : (ℓ : Loc Cert.MainIdeal.nD Cert.MainIdeal.τ Cert.MainIdeal.sig) → Buf (Elt Ideal) ℓ) (g : Dev Cert.MainIdeal.nD → PrngReg)
    (m' : (ℓ : Loc Cert.MainRefIdeal.nD Cert.MainRefIdeal.τ Cert.MainRefIdeal.sig) → Buf (Elt Ideal) ℓ) (g' : Dev Cert.MainRefIdeal.nD → PrngReg), Pre_MainIdeal m →
    (∀ c : Dev Cert.MainIdeal.nD,
      m' ((c.tc : Thread Cert.MainRefIdeal.nD Cert.MainRefIdeal.τ).loc Cert.MainRefIdeal.main_arg0) = m ((c.tc : Thread Cert.MainIdeal.nD Cert.MainIdeal.τ).loc Cert.MainIdeal.main_arg0)
      ∧ m' ((c.tc : Thread Cert.MainRefIdeal.nD Cert.MainRefIdeal.τ).loc Cert.MainRefIdeal.main_arg1) = m ((c.tc : Thread Cert.MainIdeal.nD Cert.MainIdeal.τ).loc Cert.MainIdeal.main_arg1)
      ∧ m' ((c.tc : Thread Cert.MainRefIdeal.nD Cert.MainRefIdeal.τ).loc Cert.MainRefIdeal.main_arg2) = m ((c.tc : Thread Cert.MainIdeal.nD Cert.MainIdeal.τ).loc Cert.MainIdeal.main_arg2)
      ∧ m' ((c.tc : Thread Cert.MainRefIdeal.nD Cert.MainRefIdeal.τ).loc Cert.MainRefIdeal.main_arg3) = m ((c.tc : Thread Cert.MainIdeal.nD Cert.MainIdeal.τ).loc Cert.MainIdeal.main_arg3)
      ∧ m' ((c.tc : Thread Cert.MainRefIdeal.nD Cert.MainRefIdeal.τ).loc Cert.MainRefIdeal.main_arg4) = m ((c.tc : Thread Cert.MainIdeal.nD Cert.MainIdeal.τ).loc Cert.MainIdeal.main_arg4)
      ∧ m' ((c.tc : Thread Cert.MainRefIdeal.nD Cert.MainRefIdeal.τ).loc Cert.MainRefIdeal.main_arg5) = m ((c.tc : Thread Cert.MainIdeal.nD Cert.MainIdeal.τ).loc Cert.MainIdeal.main_arg5)
      ∧ m' ((c.tc : Thread Cert.MainRefIdeal.nD Cert.MainRefIdeal.τ).loc Cert.MainRefIdeal.main_arg6) = m ((c.tc : Thread Cert.MainIdeal.nD Cert.MainIdeal.τ).loc Cert.MainIdeal.main_arg6)
      ∧ m' ((c.tc : Thread Cert.MainRefIdeal.nD Cert.MainRefIdeal.τ).loc Cert.MainRefIdeal.main_arg7) = m ((c.tc : Thread Cert.MainIdeal.nD Cert.MainIdeal.τ).loc Cert.MainIdeal.main_arg7)) →
    ∃ (v0 : (c : Dev Cert.MainIdeal.nD) → Buf (Elt Ideal) ((c.tc : Thread Cert.MainIdeal.nD Cert.MainIdeal.τ).loc Cert.MainIdeal.main_v6)),
      θ_run (Cert.MainIdeal.defs (F := Ideal)) (onTc (τ := Cert.MainIdeal.τ) (Cert.MainIdeal.main (F := Ideal))) ⟨m, fun _ => 0, g⟩ (fun r => ∀ c : Dev Cert.MainIdeal.nD,
          r.2.mem ((c.tc : Thread Cert.MainIdeal.nD Cert.MainIdeal.τ).loc Cert.MainIdeal.main_v6) = v0 c
          ∧ r.2.mem ((c.tc : Thread Cert.MainIdeal.nD Cert.MainIdeal.τ).loc Cert.MainIdeal.main_arg0) = m ((c.tc : Thread Cert.MainIdeal.nD Cert.MainIdeal.τ).loc Cert.MainIdeal.main_arg0)
          ∧ r.2.mem ((c.tc : Thread Cert.MainIdeal.nD Cert.MainIdeal.τ).loc Cert.MainIdeal.main_arg1) = m ((c.tc : Thread Cert.MainIdeal.nD Cert.MainIdeal.τ).loc Cert.MainIdeal.main_arg1)
          ∧ r.2.mem ((c.tc : Thread Cert.MainIdeal.nD Cert.MainIdeal.τ).loc Cert.MainIdeal.main_arg2) = m ((c.tc : Thread Cert.MainIdeal.nD Cert.MainIdeal.τ).loc Cert.MainIdeal.main_arg2)
          ∧ r.2.mem ((c.tc : Thread Cert.MainIdeal.nD Cert.MainIdeal.τ).loc Cert.MainIdeal.main_arg3) = m ((c.tc : Thread Cert.MainIdeal.nD Cert.MainIdeal.τ).loc Cert.MainIdeal.main_arg3)
          ∧ r.2.mem ((c.tc : Thread Cert.MainIdeal.nD Cert.MainIdeal.τ).loc Cert.MainIdeal.main_arg4) = m ((c.tc : Thread Cert.MainIdeal.nD Cert.MainIdeal.τ).loc Cert.MainIdeal.main_arg4)
          ∧ r.2.mem ((c.tc : Thread Cert.MainIdeal.nD Cert.MainIdeal.τ).loc Cert.MainIdeal.main_arg5) = m ((c.tc : Thread Cert.MainIdeal.nD Cert.MainIdeal.τ).loc Cert.MainIdeal.main_arg5)
          ∧ r.2.mem ((c.tc : Thread Cert.MainIdeal.nD Cert.MainIdeal.τ).loc Cert.MainIdeal.main_arg6) = m ((c.tc : Thread Cert.MainIdeal.nD Cert.MainIdeal.τ).loc Cert.MainIdeal.main_arg6)
          ∧ r.2.mem ((c.tc : Thread Cert.MainIdeal.nD Cert.MainIdeal.τ).loc Cert.MainIdeal.main_arg7) = m ((c.tc : Thread Cert.MainIdeal.nD Cert.MainIdeal.τ).loc Cert.MainIdeal.main_arg7))
      ∧ θ_run (Cert.MainRefIdeal.defs (F := Ideal)) (onTc (τ := Cert.MainRefIdeal.τ) (Cert.MainRefIdeal.main (F := Ideal))) ⟨m', fun _ => 0, g'⟩ (fun r => ∀ c : Dev Cert.MainRefIdeal.nD,
          r.2.mem ((c.tc : Thread Cert.MainRefIdeal.nD Cert.MainRefIdeal.τ).loc Cert.MainRefIdeal.main_v4) = v0 c
          ∧ r.2.mem ((c.tc : Thread Cert.MainRefIdeal.nD Cert.MainRefIdeal.τ).loc Cert.MainRefIdeal.main_arg0) = m' ((c.tc : Thread Cert.MainRefIdeal.nD Cert.MainRefIdeal.τ).loc Cert.MainRefIdeal.main_arg0)
          ∧ r.2.mem ((c.tc : Thread Cert.MainRefIdeal.nD Cert.MainRefIdeal.τ).loc Cert.MainRefIdeal.main_arg1) = m' ((c.tc : Thread Cert.MainRefIdeal.nD Cert.MainRefIdeal.τ).loc Cert.MainRefIdeal.main_arg1)
          ∧ r.2.mem ((c.tc : Thread Cert.MainRefIdeal.nD Cert.MainRefIdeal.τ).loc Cert.MainRefIdeal.main_arg2) = m' ((c.tc : Thread Cert.MainRefIdeal.nD Cert.MainRefIdeal.τ).loc Cert.MainRefIdeal.main_arg2)
          ∧ r.2.mem ((c.tc : Thread Cert.MainRefIdeal.nD Cert.MainRefIdeal.τ).loc Cert.MainRefIdeal.main_arg3) = m' ((c.tc : Thread Cert.MainRefIdeal.nD Cert.MainRefIdeal.τ).loc Cert.MainRefIdeal.main_arg3)
          ∧ r.2.mem ((c.tc : Thread Cert.MainRefIdeal.nD Cert.MainRefIdeal.τ).loc Cert.MainRefIdeal.main_arg4) = m' ((c.tc : Thread Cert.MainRefIdeal.nD Cert.MainRefIdeal.τ).loc Cert.MainRefIdeal.main_arg4)
          ∧ r.2.mem ((c.tc : Thread Cert.MainRefIdeal.nD Cert.MainRefIdeal.τ).loc Cert.MainRefIdeal.main_arg5) = m' ((c.tc : Thread Cert.MainRefIdeal.nD Cert.MainRefIdeal.τ).loc Cert.MainRefIdeal.main_arg5)
          ∧ r.2.mem ((c.tc : Thread Cert.MainRefIdeal.nD Cert.MainRefIdeal.τ).loc Cert.MainRefIdeal.main_arg6) = m' ((c.tc : Thread Cert.MainRefIdeal.nD Cert.MainRefIdeal.τ).loc Cert.MainRefIdeal.main_arg6)
          ∧ r.2.mem ((c.tc : Thread Cert.MainRefIdeal.nD Cert.MainRefIdeal.τ).loc Cert.MainRefIdeal.main_arg7) = m' ((c.tc : Thread Cert.MainRefIdeal.nD Cert.MainRefIdeal.τ).loc Cert.MainRefIdeal.main_arg7))

def preserves_Lora_LoraIdeal : Prop :=
  IdealRules.bf16_pair.Statement Cert.LoraIdeal.S160x160 Cert.LoraIdeal.S80x160
  ∧ IdealRules.bf16_pack.Statement Cert.LoraIdeal.S80x160

def algebraic_LoraIdeal_LoraRefIdeal [hLoraIdeal : Cert.LoraIdeal.Facts] [hLoraRefIdeal : Cert.LoraRefIdeal.Facts] : Prop :=
  ∀ (m : (ℓ : Loc Cert.LoraIdeal.nD Cert.LoraIdeal.τ Cert.LoraIdeal.sig) → Buf (Elt Ideal) ℓ) (g : Dev Cert.LoraIdeal.nD → PrngReg)
    (m' : (ℓ : Loc Cert.LoraRefIdeal.nD Cert.LoraRefIdeal.τ Cert.LoraRefIdeal.sig) → Buf (Elt Ideal) ℓ) (g' : Dev Cert.LoraRefIdeal.nD → PrngReg), Pre_LoraIdeal m →
    (∀ c : Dev Cert.LoraIdeal.nD,
      m' ((c.tc : Thread Cert.LoraRefIdeal.nD Cert.LoraRefIdeal.τ).loc Cert.LoraRefIdeal.main_arg0) = m ((c.tc : Thread Cert.LoraIdeal.nD Cert.LoraIdeal.τ).loc Cert.LoraIdeal.main_arg0)
      ∧ m' ((c.tc : Thread Cert.LoraRefIdeal.nD Cert.LoraRefIdeal.τ).loc Cert.LoraRefIdeal.main_arg1) = m ((c.tc : Thread Cert.LoraIdeal.nD Cert.LoraIdeal.τ).loc Cert.LoraIdeal.main_arg1)
      ∧ m' ((c.tc : Thread Cert.LoraRefIdeal.nD Cert.LoraRefIdeal.τ).loc Cert.LoraRefIdeal.main_arg2) = m ((c.tc : Thread Cert.LoraIdeal.nD Cert.LoraIdeal.τ).loc Cert.LoraIdeal.main_arg2)
      ∧ m' ((c.tc : Thread Cert.LoraRefIdeal.nD Cert.LoraRefIdeal.τ).loc Cert.LoraRefIdeal.main_arg3) = m ((c.tc : Thread Cert.LoraIdeal.nD Cert.LoraIdeal.τ).loc Cert.LoraIdeal.main_arg3)
      ∧ m' ((c.tc : Thread Cert.LoraRefIdeal.nD Cert.LoraRefIdeal.τ).loc Cert.LoraRefIdeal.main_arg4) = m ((c.tc : Thread Cert.LoraIdeal.nD Cert.LoraIdeal.τ).loc Cert.LoraIdeal.main_arg4)
      ∧ m' ((c.tc : Thread Cert.LoraRefIdeal.nD Cert.LoraRefIdeal.τ).loc Cert.LoraRefIdeal.main_arg5) = m ((c.tc : Thread Cert.LoraIdeal.nD Cert.LoraIdeal.τ).loc Cert.LoraIdeal.main_arg5)) →
    ∃ (v0 : (c : Dev Cert.LoraIdeal.nD) → Buf (Elt Ideal) ((c.tc : Thread Cert.LoraIdeal.nD Cert.LoraIdeal.τ).loc Cert.LoraIdeal.main_v0_0)) (v1 : (c : Dev Cert.LoraIdeal.nD) → Buf (Elt Ideal) ((c.tc : Thread Cert.LoraIdeal.nD Cert.LoraIdeal.τ).loc Cert.LoraIdeal.main_v0_1)) (v2 : (c : Dev Cert.LoraIdeal.nD) → Buf (Elt Ideal) ((c.tc : Thread Cert.LoraIdeal.nD Cert.LoraIdeal.τ).loc Cert.LoraIdeal.main_v0_2)) (v3 : (c : Dev Cert.LoraIdeal.nD) → Buf (Elt Ideal) ((c.tc : Thread Cert.LoraIdeal.nD Cert.LoraIdeal.τ).loc Cert.LoraIdeal.main_v0_3)) (v4 : (c : Dev Cert.LoraIdeal.nD) → Buf (Elt Ideal) ((c.tc : Thread Cert.LoraIdeal.nD Cert.LoraIdeal.τ).loc Cert.LoraIdeal.main_v0_4)) (v5 : (c : Dev Cert.LoraIdeal.nD) → Buf (Elt Ideal) ((c.tc : Thread Cert.LoraIdeal.nD Cert.LoraIdeal.τ).loc Cert.LoraIdeal.main_v0_5)) (v6 : (c : Dev Cert.LoraIdeal.nD) → Buf (Elt Ideal) ((c.tc : Thread Cert.LoraIdeal.nD Cert.LoraIdeal.τ).loc Cert.LoraIdeal.main_v0_6)) (v7 : (c : Dev Cert.LoraIdeal.nD) → Buf (Elt Ideal) ((c.tc : Thread Cert.LoraIdeal.nD Cert.LoraIdeal.τ).loc Cert.LoraIdeal.main_v0_7)),
      θ_run (Cert.LoraIdeal.defs (F := Ideal)) (onTc (τ := Cert.LoraIdeal.τ) (Cert.LoraIdeal.main (F := Ideal))) ⟨m, fun _ => 0, g⟩ (fun r => ∀ c : Dev Cert.LoraIdeal.nD,
          r.2.mem ((c.tc : Thread Cert.LoraIdeal.nD Cert.LoraIdeal.τ).loc Cert.LoraIdeal.main_v0_0) = v0 c
          ∧ r.2.mem ((c.tc : Thread Cert.LoraIdeal.nD Cert.LoraIdeal.τ).loc Cert.LoraIdeal.main_v0_1) = v1 c
          ∧ r.2.mem ((c.tc : Thread Cert.LoraIdeal.nD Cert.LoraIdeal.τ).loc Cert.LoraIdeal.main_v0_2) = v2 c
          ∧ r.2.mem ((c.tc : Thread Cert.LoraIdeal.nD Cert.LoraIdeal.τ).loc Cert.LoraIdeal.main_v0_3) = v3 c
          ∧ r.2.mem ((c.tc : Thread Cert.LoraIdeal.nD Cert.LoraIdeal.τ).loc Cert.LoraIdeal.main_v0_4) = v4 c
          ∧ r.2.mem ((c.tc : Thread Cert.LoraIdeal.nD Cert.LoraIdeal.τ).loc Cert.LoraIdeal.main_v0_5) = v5 c
          ∧ r.2.mem ((c.tc : Thread Cert.LoraIdeal.nD Cert.LoraIdeal.τ).loc Cert.LoraIdeal.main_v0_6) = v6 c
          ∧ r.2.mem ((c.tc : Thread Cert.LoraIdeal.nD Cert.LoraIdeal.τ).loc Cert.LoraIdeal.main_v0_7) = v7 c
          ∧ r.2.mem ((c.tc : Thread Cert.LoraIdeal.nD Cert.LoraIdeal.τ).loc Cert.LoraIdeal.main_arg0) = m ((c.tc : Thread Cert.LoraIdeal.nD Cert.LoraIdeal.τ).loc Cert.LoraIdeal.main_arg0)
          ∧ r.2.mem ((c.tc : Thread Cert.LoraIdeal.nD Cert.LoraIdeal.τ).loc Cert.LoraIdeal.main_arg1) = m ((c.tc : Thread Cert.LoraIdeal.nD Cert.LoraIdeal.τ).loc Cert.LoraIdeal.main_arg1)
          ∧ r.2.mem ((c.tc : Thread Cert.LoraIdeal.nD Cert.LoraIdeal.τ).loc Cert.LoraIdeal.main_arg2) = m ((c.tc : Thread Cert.LoraIdeal.nD Cert.LoraIdeal.τ).loc Cert.LoraIdeal.main_arg2)
          ∧ r.2.mem ((c.tc : Thread Cert.LoraIdeal.nD Cert.LoraIdeal.τ).loc Cert.LoraIdeal.main_arg3) = m ((c.tc : Thread Cert.LoraIdeal.nD Cert.LoraIdeal.τ).loc Cert.LoraIdeal.main_arg3)
          ∧ r.2.mem ((c.tc : Thread Cert.LoraIdeal.nD Cert.LoraIdeal.τ).loc Cert.LoraIdeal.main_arg4) = m ((c.tc : Thread Cert.LoraIdeal.nD Cert.LoraIdeal.τ).loc Cert.LoraIdeal.main_arg4)
          ∧ r.2.mem ((c.tc : Thread Cert.LoraIdeal.nD Cert.LoraIdeal.τ).loc Cert.LoraIdeal.main_arg5) = m ((c.tc : Thread Cert.LoraIdeal.nD Cert.LoraIdeal.τ).loc Cert.LoraIdeal.main_arg5))
      ∧ θ_run (Cert.LoraRefIdeal.defs (F := Ideal)) (onTc (τ := Cert.LoraRefIdeal.τ) (Cert.LoraRefIdeal.main (F := Ideal))) ⟨m', fun _ => 0, g'⟩ (fun r => ∀ c : Dev Cert.LoraRefIdeal.nD,
          r.2.mem ((c.tc : Thread Cert.LoraRefIdeal.nD Cert.LoraRefIdeal.τ).loc Cert.LoraRefIdeal.main_v22) = v0 c
          ∧ r.2.mem ((c.tc : Thread Cert.LoraRefIdeal.nD Cert.LoraRefIdeal.τ).loc Cert.LoraRefIdeal.main_v124) = v1 c
          ∧ r.2.mem ((c.tc : Thread Cert.LoraRefIdeal.nD Cert.LoraRefIdeal.τ).loc Cert.LoraRefIdeal.main_v43) = v2 c
          ∧ r.2.mem ((c.tc : Thread Cert.LoraRefIdeal.nD Cert.LoraRefIdeal.τ).loc Cert.LoraRefIdeal.main_v125) = v3 c
          ∧ r.2.mem ((c.tc : Thread Cert.LoraRefIdeal.nD Cert.LoraRefIdeal.τ).loc Cert.LoraRefIdeal.main_v122) = v4 c
          ∧ r.2.mem ((c.tc : Thread Cert.LoraRefIdeal.nD Cert.LoraRefIdeal.τ).loc Cert.LoraRefIdeal.main_v126) = v5 c
          ∧ r.2.mem ((c.tc : Thread Cert.LoraRefIdeal.nD Cert.LoraRefIdeal.τ).loc Cert.LoraRefIdeal.main_v128) = v6 c
          ∧ r.2.mem ((c.tc : Thread Cert.LoraRefIdeal.nD Cert.LoraRefIdeal.τ).loc Cert.LoraRefIdeal.main_v130) = v7 c
          ∧ r.2.mem ((c.tc : Thread Cert.LoraRefIdeal.nD Cert.LoraRefIdeal.τ).loc Cert.LoraRefIdeal.main_arg0) = m' ((c.tc : Thread Cert.LoraRefIdeal.nD Cert.LoraRefIdeal.τ).loc Cert.LoraRefIdeal.main_arg0)
          ∧ r.2.mem ((c.tc : Thread Cert.LoraRefIdeal.nD Cert.LoraRefIdeal.τ).loc Cert.LoraRefIdeal.main_arg1) = m' ((c.tc : Thread Cert.LoraRefIdeal.nD Cert.LoraRefIdeal.τ).loc Cert.LoraRefIdeal.main_arg1)
          ∧ r.2.mem ((c.tc : Thread Cert.LoraRefIdeal.nD Cert.LoraRefIdeal.τ).loc Cert.LoraRefIdeal.main_arg2) = m' ((c.tc : Thread Cert.LoraRefIdeal.nD Cert.LoraRefIdeal.τ).loc Cert.LoraRefIdeal.main_arg2)
          ∧ r.2.mem ((c.tc : Thread Cert.LoraRefIdeal.nD Cert.LoraRefIdeal.τ).loc Cert.LoraRefIdeal.main_arg3) = m' ((c.tc : Thread Cert.LoraRefIdeal.nD Cert.LoraRefIdeal.τ).loc Cert.LoraRefIdeal.main_arg3)
          ∧ r.2.mem ((c.tc : Thread Cert.LoraRefIdeal.nD Cert.LoraRefIdeal.τ).loc Cert.LoraRefIdeal.main_arg4) = m' ((c.tc : Thread Cert.LoraRefIdeal.nD Cert.LoraRefIdeal.τ).loc Cert.LoraRefIdeal.main_arg4)
          ∧ r.2.mem ((c.tc : Thread Cert.LoraRefIdeal.nD Cert.LoraRefIdeal.τ).loc Cert.LoraRefIdeal.main_arg5) = m' ((c.tc : Thread Cert.LoraRefIdeal.nD Cert.LoraRefIdeal.τ).loc Cert.LoraRefIdeal.main_arg5))

def Claim : Prop :=
  ∃ (hMain : Cert.Main.Facts) (hMainIdeal : Cert.MainIdeal.Facts) (hMainRefIdeal : Cert.MainRefIdeal.Facts) (hLora : Cert.Lora.Facts) (hLoraIdeal : Cert.LoraIdeal.Facts) (hLoraRefIdeal : Cert.LoraRefIdeal.Facts),
    quiescent_Main (hMain := hMain)
    ∧ quiescent_MainIdeal (hMainIdeal := hMainIdeal)
    ∧ quiescent_MainRefIdeal (hMainRefIdeal := hMainRefIdeal)
    ∧ quiescent_Lora (hLora := hLora)
    ∧ quiescent_LoraIdeal (hLoraIdeal := hLoraIdeal)
    ∧ quiescent_LoraRefIdeal (hLoraRefIdeal := hLoraRefIdeal)
    ∧ preserves_Main_MainIdeal
    ∧ algebraic_MainIdeal_MainRefIdeal (hMainIdeal := hMainIdeal) (hMainRefIdeal := hMainRefIdeal)
    ∧ preserves_Lora_LoraIdeal
    ∧ algebraic_LoraIdeal_LoraRefIdeal (hLoraIdeal := hLoraIdeal) (hLoraRefIdeal := hLoraRefIdeal)
-- ==== Main.lean ====
abbrev S1536x3584 : Shape := ⟨2, ![1536, 3584]⟩
abbrev S1536 : Shape := ⟨1, ![1536]⟩
abbrev S1536x160 : Shape := ⟨2, ![1536, 160]⟩
abbrev S3584x18944 : Shape := ⟨2, ![3584, 18944]⟩
abbrev S18944 : Shape := ⟨1, ![18944]⟩
abbrev S160x18944 : Shape := ⟨2, ![160, 18944]⟩
abbrev S1536x1 : Shape := ⟨2, ![1536, 1]⟩
abbrev S1536x128 : Shape := ⟨2, ![1536, 128]⟩
abbrev S1x18944 : Shape := ⟨2, ![1, 18944]⟩
abbrev S1536x18944 : Shape := ⟨2, ![1536, 18944]⟩
abbrev S3584x512 : Shape := ⟨2, ![3584, 512]⟩
abbrev S1x512 : Shape := ⟨2, ![1, 512]⟩
abbrev S160x512 : Shape := ⟨2, ![160, 512]⟩
abbrev S1536x512 : Shape := ⟨2, ![1536, 512]⟩

abbrev nBuf : Space → Nat
  | .hbm => 15
  | .vmem => 14
  | .smem => 0
  | _ => 0

abbrev bufTy : (tb : Table) → Fin (tcTables nBuf tb) → BufTy
  | .hbm, ⟨0, _⟩ => ⟨S1536x3584, .fp8e4m3⟩
  | .hbm, ⟨1, _⟩ => ⟨S1536, .f32⟩
  | .hbm, ⟨2, _⟩ => ⟨S1536x160, .fp8e4m3⟩
  | .hbm, ⟨3, _⟩ => ⟨S1536, .f32⟩
  | .hbm, ⟨4, _⟩ => ⟨S3584x18944, .fp8e4m3⟩
  | .hbm, ⟨5, _⟩ => ⟨S18944, .f32⟩
  | .hbm, ⟨6, _⟩ => ⟨S160x18944, .fp8e4m3⟩
  | .hbm, ⟨7, _⟩ => ⟨S18944, .f32⟩
  | .hbm, ⟨8, _⟩ => ⟨S1536x1, .f32⟩
  | .hbm, ⟨9, _⟩ => ⟨S1536x128, .f32⟩
  | .hbm, ⟨10, _⟩ => ⟨S1536x1, .f32⟩
  | .hbm, ⟨11, _⟩ => ⟨S1536x128, .f32⟩
  | .hbm, ⟨12, _⟩ => ⟨S1x18944, .f32⟩
  | .hbm, ⟨13, _⟩ => ⟨S1x18944, .f32⟩
  | .hbm, ⟨14, _⟩ => ⟨S1536x18944, .bf16⟩
  | .local _ .vmem, ⟨0, _⟩ => ⟨S1536x3584, .fp8e4m3⟩
  | .local _ .vmem, ⟨1, _⟩ => ⟨S1536x128, .f32⟩
  | .local _ .vmem, ⟨2, _⟩ => ⟨S1536x160, .fp8e4m3⟩
  | .local _ .vmem, ⟨3, _⟩ => ⟨S1536x128, .f32⟩
  | .local _ .vmem, ⟨4, _⟩ => ⟨S3584x512, .fp8e4m3⟩
  | .local _ .vmem, ⟨5, _⟩ => ⟨S3584x512, .fp8e4m3⟩
  | .local _ .vmem, ⟨6, _⟩ => ⟨S1x512, .f32⟩
  | .local _ .vmem, ⟨7, _⟩ => ⟨S1x512, .f32⟩
  | .local _ .vmem, ⟨8, _⟩ => ⟨S160x512, .fp8e4m3⟩
  | .local _ .vmem, ⟨9, _⟩ => ⟨S160x512, .fp8e4m3⟩
  | .local _ .vmem, ⟨10, _⟩ => ⟨S1x512, .f32⟩
  | .local _ .vmem, ⟨11, _⟩ => ⟨S1x512, .f32⟩
  | .local _ .vmem, ⟨12, _⟩ => ⟨S1536x512, .bf16⟩
  | .local _ .vmem, ⟨13, _⟩ => ⟨S1536x512, .bf16⟩
  | _, _ => ⟨S1536x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![37], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1536x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x160 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3584x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S160x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1536x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MainRefIdeal.lean ====
abbrev S1536x3584 : Shape := ⟨2, ![1536, 3584]⟩
abbrev S1536 : Shape := ⟨1, ![1536]⟩
abbrev S1536x160 : Shape := ⟨2, ![1536, 160]⟩
abbrev S3584x18944 : Shape := ⟨2, ![3584, 18944]⟩
abbrev S18944 : Shape := ⟨1, ![18944]⟩
abbrev S160x18944 : Shape := ⟨2, ![160, 18944]⟩
abbrev S1536x1 : Shape := ⟨2, ![1536, 1]⟩
abbrev S1x18944 : Shape := ⟨2, ![1, 18944]⟩
abbrev S1536x18944 : Shape := ⟨2, ![1536, 18944]⟩

abbrev nBuf : Space → Nat
  | .hbm => 13
  | .vmem => 9
  | .smem => 0
  | _ => 0

abbrev bufTy : (tb : Table) → Fin (tcTables nBuf tb) → BufTy
  | .hbm, ⟨0, _⟩ => ⟨S1536x3584, .fp8e4m3⟩
  | .hbm, ⟨1, _⟩ => ⟨S1536, .f32⟩
  | .hbm, ⟨2, _⟩ => ⟨S1536x160, .fp8e4m3⟩
  | .hbm, ⟨3, _⟩ => ⟨S1536, .f32⟩
  | .hbm, ⟨4, _⟩ => ⟨S3584x18944, .fp8e4m3⟩
  | .hbm, ⟨5, _⟩ => ⟨S18944, .f32⟩
  | .hbm, ⟨6, _⟩ => ⟨S160x18944, .fp8e4m3⟩
  | .hbm, ⟨7, _⟩ => ⟨S18944, .f32⟩
  | .hbm, ⟨8, _⟩ => ⟨S1536x1, .f32⟩
  | .hbm, ⟨9, _⟩ => ⟨S1536x1, .f32⟩
  | .hbm, ⟨10, _⟩ => ⟨S1x18944, .f32⟩
  | .hbm, ⟨11, _⟩ => ⟨S1x18944, .f32⟩
  | .hbm, ⟨12, _⟩ => ⟨S1536x18944, .bf16⟩
  | .local _ .vmem, ⟨0, _⟩ => ⟨S1536x3584, .fp8e4m3⟩
  | .local _ .vmem, ⟨1, _⟩ => ⟨S1536x1, .f32⟩
  | .local _ .vmem, ⟨2, _⟩ => ⟨S1536x160, .fp8e4m3⟩
  | .local _ .vmem, ⟨3, _⟩ => ⟨S1536x1, .f32⟩
  | .local _ .vmem, ⟨4, _⟩ => ⟨S3584x18944, .fp8e4m3⟩
  | .local _ .vmem, ⟨5, _⟩ => ⟨S1x18944, .f32⟩
  | .local _ .vmem, ⟨6, _⟩ => ⟨S160x18944, .fp8e4m3⟩
  | .local _ .vmem, ⟨7, _⟩ => ⟨S1x18944, .f32⟩
  | .local _ .vmem, ⟨8, _⟩ => ⟨S1536x18944, .bf16⟩
  | _, _ => ⟨S1536x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1536x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x160 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584x18944 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x18944 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S160x18944 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x18944 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x18944 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Lora.lean ====
abbrev S1536x3584 : Shape := ⟨2, ![1536, 3584]⟩
abbrev S160x3584 : Shape := ⟨2, ![160, 3584]⟩
abbrev S1x160 : Shape := ⟨2, ![1, 160]⟩
abbrev S41x80x160 : Shape := ⟨3, ![41, 80, 160]⟩
abbrev S41x160 : Shape := ⟨2, ![41, 160]⟩
abbrev S41 : Shape := ⟨1, ![41]⟩
abbrev S6x1x256 : Shape := ⟨3, ![6, 1, 256]⟩
abbrev S1536x160 : Shape := ⟨2, ![1536, 160]⟩
abbrev S1536x128 : Shape := ⟨2, ![1536, 128]⟩
abbrev S256x3584 : Shape := ⟨2, ![256, 3584]⟩
abbrev S1x1x256 : Shape := ⟨3, ![1, 1, 256]⟩
abbrev S256x160 : Shape := ⟨2, ![256, 160]⟩
abbrev S256x128 : Shape := ⟨2, ![256, 128]⟩
abbrev S256 : Shape := ⟨1, ![256]⟩
abbrev S256x1 : Shape := ⟨2, ![256, 1]⟩
abbrev S1 : Shape := ⟨1, ![1]⟩
abbrev S1x80x160 : Shape := ⟨3, ![1, 80, 160]⟩
abbrev S80x160 : Shape := ⟨2, ![80, 160]⟩
abbrev S160x160 : Shape := ⟨2, ![160, 160]⟩
abbrev S128x128 : Shape := ⟨2, ![128, 128]⟩
abbrev S128x1 : Shape := ⟨2, ![128, 1]⟩
abbrev S128 : Shape := ⟨1, ![128]⟩
abbrev S1x128 : Shape := ⟨2, ![1, 128]⟩
abbrev S1x256 : Shape := ⟨2, ![1, 256]⟩

abbrev nBuf : Space → Nat
  | .hbm => 13
  | .vmem => 23
  | .smem => 1
  | _ => 0

abbrev bufTy : (tb : Table) → Fin (tcTables nBuf tb) → BufTy
  | .hbm, ⟨0, _⟩ => ⟨S1536x3584, .bf16⟩
  | .hbm, ⟨1, _⟩ => ⟨S160x3584, .fp8e4m3⟩
  | .hbm, ⟨2, _⟩ => ⟨S1x160, .f32⟩
  | .hbm, ⟨3, _⟩ => ⟨S41x80x160, .i8⟩
  | .hbm, ⟨4, _⟩ => ⟨S41x160, .f32⟩
  | .hbm, ⟨5, _⟩ => ⟨S1536x3584, .fp8e4m3⟩
  | .hbm, ⟨6, _⟩ => ⟨S6x1x256, .f32⟩
  | .hbm, ⟨7, _⟩ => ⟨S1536x160, .i8⟩
  | .hbm, ⟨8, _⟩ => ⟨S6x1x256, .f32⟩
  | .hbm, ⟨9, _⟩ => ⟨S1536x160, .fp8e4m3⟩
  | .hbm, ⟨10, _⟩ => ⟨S6x1x256, .f32⟩
  | .hbm, ⟨11, _⟩ => ⟨S1536x128, .f32⟩
  | .hbm, ⟨12, _⟩ => ⟨S1536x128, .f32⟩
  | .local _ .vmem, ⟨0, _⟩ => ⟨S256x3584, .bf16⟩
  | .local _ .vmem, ⟨1, _⟩ => ⟨S256x3584, .bf16⟩
  | .local _ .vmem, ⟨2, _⟩ => ⟨S160x3584, .fp8e4m3⟩
  | .local _ .vmem, ⟨3, _⟩ => ⟨S1x160, .f32⟩
  | .local _ .vmem, ⟨4, _⟩ => ⟨S41x80x160, .i8⟩
  | .local _ .vmem, ⟨5, _⟩ => ⟨S41x160, .f32⟩
  | .local _ .vmem, ⟨6, _⟩ => ⟨S256x3584, .fp8e4m3⟩
  | .local _ .vmem, ⟨7, _⟩ => ⟨S256x3584, .fp8e4m3⟩
  | .local _ .vmem, ⟨8, _⟩ => ⟨S1x1x256, .f32⟩
  | .local _ .vmem, ⟨9, _⟩ => ⟨S1x1x256, .f32⟩
  | .local _ .vmem, ⟨10, _⟩ => ⟨S256x160, .i8⟩
  | .local _ .vmem, ⟨11, _⟩ => ⟨S256x160, .i8⟩
  | .local _ .vmem, ⟨12, _⟩ => ⟨S1x1x256, .f32⟩
  | .local _ .vmem, ⟨13, _⟩ => ⟨S1x1x256, .f32⟩
  | .local _ .vmem, ⟨14, _⟩ => ⟨S256x160, .fp8e4m3⟩
  | .local _ .vmem, ⟨15, _⟩ => ⟨S256x160, .fp8e4m3⟩
  | .local _ .vmem, ⟨16, _⟩ => ⟨S1x1x256, .f32⟩
  | .local _ .vmem, ⟨17, _⟩ => ⟨S1x1x256, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x160, .f32⟩
  | .local _ .smem, ⟨0, _⟩ => ⟨S41, .i32⟩
  | _, _ => ⟨S1536x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev main_v0_7 : Ref sig .tc := ⟨.hbm, 12, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [BitOps F]

abbrev grid0 : Pipeline.Grid := ⟨1, ![6], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_29 : BitVec 32 := 0#32
  let c41_i32 : BitVec 32 := 41#32
  let v69 : BitVec 32 := Scalar.addi c0_i32_29 c41_i32
  let c1_i32 : BitVec 32 := 1#32
  ⟨c0_i32_29, v69, c1_i32⟩
def k0_off1 (k0_t1 : Fin k0_t1_loop.trips) : Fin 1 → Nat :=
  let c0_i32_29 : BitVec 32 := 0#32
  let c1_i32 : BitVec 32 := 1#32
  let arg16 : BitVec 32 := Scf.iv c0_i32_29 c1_i32 k0_t1
  let v173 : Index := Scalar.indexCast arg16
  ![v173.toNat]
def k0_off2 (k0_t1 : Fin k0_t1_loop.trips) : Fin 3 → Nat :=
  let c0_i32_29 : BitVec 32 := 0#32
  let c1_i32 : BitVec 32 := 1#32
  let arg16 : BitVec 32 := Scf.iv c0_i32_29 c1_i32 k0_t1
  let v186 : Index := Scalar.indexCast arg16
  let c0_75 : Index := 0#32
  let c0_76 : Index := 0#32
  ![v186.toNat, 0, 0]
def k0_off3 (k0_t1 : Fin k0_t1_loop.trips) : Fin 2 → Nat :=
  let c0_i32_29 : BitVec 32 := 0#32
  let c1_i32 : BitVec 32 := 1#32
  let arg16 : BitVec 32 := Scf.iv c0_i32_29 c1_i32 k0_t1
  let v211 : Index := Scalar.indexCast arg16
  let c0_80 : Index := 0#32
  ![v211.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S160x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S41x80x160 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S41x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3584 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x160 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x160 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== LoraIdeal.lean ====
variable {F : FTy → Type} [FloatOps F]
-- ==== LoraRefIdeal.lean ====
abbrev S1536x3584 : Shape := ⟨2, ![1536, 3584]⟩
abbrev S160x3584 : Shape := ⟨2, ![160, 3584]⟩
abbrev S1x160 : Shape := ⟨2, ![1, 160]⟩
abbrev S41x80x160 : Shape := ⟨3, ![41, 80, 160]⟩
abbrev S41x160 : Shape := ⟨2, ![41, 160]⟩
abbrev S41 : Shape := ⟨1, ![41]⟩
abbrev S_ : Shape := ⟨0, ![]⟩
abbrev S1536 : Shape := ⟨1, ![1536]⟩
abbrev S1536x1 : Shape := ⟨2, ![1536, 1]⟩
abbrev S1536x160 : Shape := ⟨2, ![1536, 160]⟩
abbrev S41x80x1x160 : Shape := ⟨4, ![41, 80, 1, 160]⟩
abbrev S41x80x2x160 : Shape := ⟨4, ![41, 80, 2, 160]⟩
abbrev S41x160x160 : Shape := ⟨3, ![41, 160, 160]⟩
abbrev S1x41 : Shape := ⟨2, ![1, 41]⟩
abbrev S41x1 : Shape := ⟨2, ![41, 1]⟩
abbrev S41x41 : Shape := ⟨2, ![41, 41]⟩
abbrev S1536x41 : Shape := ⟨2, ![1536, 41]⟩
abbrev S1536x41x160 : Shape := ⟨3, ![1536, 41, 160]⟩
abbrev S1536x1x1 : Shape := ⟨3, ![1536, 1, 1]⟩
abbrev S1x41x160 : Shape := ⟨3, ![1, 41, 160]⟩
abbrev S1536x41x1 : Shape := ⟨3, ![1536, 41, 1]⟩
abbrev S6x1x256 : Shape := ⟨3, ![6, 1, 256]⟩
abbrev S1536x128 : Shape := ⟨2, ![1536, 128]⟩

abbrev nBuf : Space → Nat
  | .hbm => 202
  | .vmem => 3
  | .smem => 0
  | _ => 0

abbrev hbmTy0_0 (i : Nat) : BufTy := match i % 128 with
  | 0 => ⟨S1536x3584, .bf16⟩
  | 1 => ⟨S160x3584, .fp8e4m3⟩
  | 2 => ⟨S1x160, .f32⟩
  | 3 => ⟨S41x80x160, .i8⟩
  | 4 => ⟨S41x160, .f32⟩
  | 5 => ⟨S41, .i32⟩
  | 6 => ⟨S1536x3584, .f32⟩
  | 7 => ⟨S1536x3584, .f32⟩
  | 8 => ⟨S_, .f32⟩
  | 9 => ⟨S1536, .f32⟩
  | 10 => ⟨S_, .f32⟩
  | 11 => ⟨S1536, .f32⟩
  | 12 => ⟨S1536, .f32⟩
  | 13 => ⟨S1536, .f32⟩
  | 14 => ⟨S_, .f32⟩
  | 15 => ⟨S_, .f32⟩
  | 16 => ⟨S1536, .f32⟩
  | 17 => ⟨S1536, .f32⟩
  | 18 => ⟨S_, .f32⟩
  | 19 => ⟨S1536, .f32⟩
  | 20 => ⟨S1536, .i1⟩
  | 21 => ⟨S1536, .f32⟩
  | 22 => ⟨S_, .f32⟩
  | 23 => ⟨S1536, .f32⟩
  | 24 => ⟨S1536, .f32⟩
  | 25 => ⟨S_, .f32⟩
  | 26 => ⟨S_, .f32⟩
  | 27 => ⟨S1536, .f32⟩
  | 28 => ⟨S1536, .f32⟩
  | 29 => ⟨S_, .f32⟩
  | 30 => ⟨S1536, .f32⟩
  | 31 => ⟨S1536, .f32⟩
  | 32 => ⟨S1536, .f32⟩
  | 33 => ⟨S1536x1, .f32⟩
  | 34 => ⟨S1536x3584, .f32⟩
  | 35 => ⟨S1536x3584, .f32⟩
  | 36 => ⟨S_, .f32⟩
  | 37 => ⟨S_, .f32⟩
  | 38 => ⟨S_, .f32⟩
  | 39 => ⟨S1536x3584, .f32⟩
  | 40 => ⟨S1536x3584, .f32⟩
  | 41 => ⟨S_, .f32⟩
  | 42 => ⟨S1536x3584, .f32⟩
  | 43 => ⟨S1536x3584, .f32⟩
  | 44 => ⟨S1536x3584, .fp8e4m3⟩
  | 45 => ⟨S1536, .f32⟩
  | 46 => ⟨S1536x160, .f32⟩
  | 47 => ⟨S1536x1, .f32⟩
  | 48 => ⟨S1536x160, .f32⟩
  | 49 => ⟨S1536x160, .f32⟩
  | 50 => ⟨S1536x160, .f32⟩
  | 51 => ⟨S1536x160, .f32⟩
  | 52 => ⟨S1536x160, .f32⟩
  | 53 => ⟨S_, .f32⟩
  | 54 => ⟨S1536, .f32⟩
  | 55 => ⟨S_, .f32⟩
  | 56 => ⟨S1536, .f32⟩
  | 57 => ⟨S1536, .i1⟩
  | 58 => ⟨S_, .f32⟩
  | 59 => ⟨S1536, .f32⟩
  | 60 => ⟨S1536, .f32⟩
  | 61 => ⟨S_, .f32⟩
  | 62 => ⟨S_, .f32⟩
  | 63 => ⟨S1536, .f32⟩
  | 64 => ⟨S1536, .f32⟩
  | 65 => ⟨S1536x1, .f32⟩
  | 66 => ⟨S1536x160, .f32⟩
  | 67 => ⟨S1536x160, .f32⟩
  | 68 => ⟨S1536x160, .f32⟩
  | 69 => ⟨S_, .f32⟩
  | 70 => ⟨S_, .f32⟩
  | 71 => ⟨S_, .f32⟩
  | 72 => ⟨S1536x160, .f32⟩
  | 73 => ⟨S1536x160, .f32⟩
  | 74 => ⟨S_, .f32⟩
  | 75 => ⟨S1536x160, .f32⟩
  | 76 => ⟨S1536x160, .f32⟩
  | 77 => ⟨S1536x160, .i32⟩
  | 78 => ⟨S1536x160, .i8⟩
  | 79 => ⟨S41x80x160, .i32⟩
  | 80 => ⟨S_, .i32⟩
  | 81 => ⟨S41x80x160, .i32⟩
  | 82 => ⟨S41x80x160, .i32⟩
  | 83 => ⟨S_, .i32⟩
  | 84 => ⟨S41x80x160, .i32⟩
  | 85 => ⟨S41x80x160, .i32⟩
  | 86 => ⟨S_, .i32⟩
  | 87 => ⟨S41x80x160, .i32⟩
  | 88 => ⟨S41x80x160, .i32⟩
  | 89 => ⟨S41x80x1x160, .i32⟩
  | 90 => ⟨S41x80x1x160, .i32⟩
  | 91 => ⟨S41x80x2x160, .i32⟩
  | 92 => ⟨S41x160x160, .i32⟩
  | 93 => ⟨S_, .i32⟩
  | 94 => ⟨S41x160x160, .i32⟩
  | 95 => ⟨S41x160x160, .i1⟩
  | 96 => ⟨S_, .i32⟩
  | 97 => ⟨S41x160x160, .i32⟩
  | 98 => ⟨S41x160x160, .i32⟩
  | 99 => ⟨S41x160x160, .i32⟩
  | 100 => ⟨S41x160x160, .f32⟩
  | 101 => ⟨S41, .i32⟩
  | 102 => ⟨S1x41, .i32⟩
  | 103 => ⟨S41x1, .i32⟩
  | 104 => ⟨S41x41, .i32⟩
  | 105 => ⟨S41x41, .i32⟩
  | 106 => ⟨S41x41, .i1⟩
  | 107 => ⟨S1x41, .i32⟩
  | 108 => ⟨S_, .i32⟩
  | 109 => ⟨S_, .i32⟩
  | 110 => ⟨S41x41, .i32⟩
  | 111 => ⟨S41x41, .i32⟩
  | 112 => ⟨S41x41, .i32⟩
  | 113 => ⟨S_, .i32⟩
  | 114 => ⟨S41, .i32⟩
  | 115 => ⟨S41, .i32⟩
  | 116 => ⟨S1536, .i32⟩
  | 117 => ⟨S1536x1, .i32⟩
  | 118 => ⟨S1x41, .i32⟩
  | 119 => ⟨S1536x41, .i32⟩
  | 120 => ⟨S1536x41, .i32⟩
  | 121 => ⟨S1536x41, .i1⟩
  | 122 => ⟨S1x41, .i32⟩
  | 123 => ⟨S1536x41, .i32⟩
  | 124 => ⟨S1536x41, .i32⟩
  | 125 => ⟨S1536x41, .i1⟩
  | 126 => ⟨S1536x41, .i1⟩
  | 127 => ⟨S_, .i32⟩
  | _ => ⟨S1536x3584, .bf16⟩

abbrev hbmTy0_1 (i : Nat) : BufTy := match i % 128 with
  | 0 => ⟨S_, .i32⟩
  | 1 => ⟨S1536x41, .i32⟩
  | 2 => ⟨S1536x41, .i32⟩
  | 3 => ⟨S1536x41, .i32⟩
  | 4 => ⟨S_, .i32⟩
  | 5 => ⟨S1536, .i32⟩
  | 6 => ⟨S1536x160, .i32⟩
  | 7 => ⟨S1536x160, .f32⟩
  | 8 => ⟨S1536x41x160, .f32⟩
  | 9 => ⟨S1536x1x1, .f32⟩
  | 10 => ⟨S1536x41x160, .f32⟩
  | 11 => ⟨S1536x41x160, .f32⟩
  | 12 => ⟨S1x41x160, .f32⟩
  | 13 => ⟨S1536x41x160, .f32⟩
  | 14 => ⟨S1536x41x160, .f32⟩
  | 15 => ⟨S1536x1, .i32⟩
  | 16 => ⟨S1x41, .i32⟩
  | 17 => ⟨S1536x41, .i32⟩
  | 18 => ⟨S1536x41, .i32⟩
  | 19 => ⟨S1536x41, .i1⟩
  | 20 => ⟨S1536x41x1, .i1⟩
  | 21 => ⟨S_, .f32⟩
  | 22 => ⟨S_, .f32⟩
  | 23 => ⟨S1536x41x160, .i1⟩
  | 24 => ⟨S1536x41x160, .f32⟩
  | 25 => ⟨S1536x41x160, .f32⟩
  | 26 => ⟨S_, .f32⟩
  | 27 => ⟨S1536x160, .f32⟩
  | 28 => ⟨S1536x160, .f32⟩
  | 29 => ⟨S_, .f32⟩
  | 30 => ⟨S1536, .f32⟩
  | 31 => ⟨S_, .f32⟩
  | 32 => ⟨S1536, .f32⟩
  | 33 => ⟨S1536, .f32⟩
  | 34 => ⟨S1536, .f32⟩
  | 35 => ⟨S_, .f32⟩
  | 36 => ⟨S_, .f32⟩
  | 37 => ⟨S1536, .f32⟩
  | 38 => ⟨S1536, .f32⟩
  | 39 => ⟨S_, .f32⟩
  | 40 => ⟨S1536, .f32⟩
  | 41 => ⟨S1536, .i1⟩
  | 42 => ⟨S1536, .f32⟩
  | 43 => ⟨S_, .f32⟩
  | 44 => ⟨S1536, .f32⟩
  | 45 => ⟨S1536, .f32⟩
  | 46 => ⟨S_, .f32⟩
  | 47 => ⟨S_, .f32⟩
  | 48 => ⟨S1536, .f32⟩
  | 49 => ⟨S1536, .f32⟩
  | 50 => ⟨S_, .f32⟩
  | 51 => ⟨S1536, .f32⟩
  | 52 => ⟨S1536, .f32⟩
  | 53 => ⟨S1536, .f32⟩
  | 54 => ⟨S1536x1, .f32⟩
  | 55 => ⟨S1536x160, .f32⟩
  | 56 => ⟨S1536x160, .f32⟩
  | 57 => ⟨S_, .f32⟩
  | 58 => ⟨S_, .f32⟩
  | 59 => ⟨S_, .f32⟩
  | 60 => ⟨S1536x160, .f32⟩
  | 61 => ⟨S1536x160, .f32⟩
  | 62 => ⟨S_, .f32⟩
  | 63 => ⟨S1536x160, .f32⟩
  | 64 => ⟨S1536x160, .f32⟩
  | 65 => ⟨S1536x160, .fp8e4m3⟩
  | 66 => ⟨S1536, .f32⟩
  | 67 => ⟨S6x1x256, .f32⟩
  | 68 => ⟨S6x1x256, .f32⟩
  | 69 => ⟨S6x1x256, .f32⟩
  | 70 => ⟨S1536x1, .f32⟩
  | 71 => ⟨S1536x128, .f32⟩
  | 72 => ⟨S1536x1, .f32⟩
  | 73 => ⟨S1536x128, .f32⟩
  | _ => ⟨S1536x3584, .bf16⟩

abbrev hbmTy (i : Nat) : BufTy := match i / 128 with
  | 0 => hbmTy0_0 i
  | 1 => hbmTy0_1 i
  | _ => ⟨S1536x3584, .bf16⟩

abbrev bufTy : (tb : Table) → Fin (tcTables nBuf tb) → BufTy
  | .hbm, ⟨i, _⟩ => hbmTy i
  | .local _ .vmem, ⟨0, _⟩ => ⟨S1536x3584, .fp8e4m3⟩
  | .local _ .vmem, ⟨1, _⟩ => ⟨S160x3584, .fp8e4m3⟩
  | .local _ .vmem, ⟨2, _⟩ => ⟨S1536x160, .f32⟩
  | _, _ => ⟨S1536x3584, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_cst_7 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_8 : Ref sig .tc := ⟨.hbm, 53, rfl⟩
abbrev main_v31 : Ref sig .tc := ⟨.hbm, 54, rfl⟩
abbrev main_cst_9 : Ref sig .tc := ⟨.hbm, 55, rfl⟩
abbrev main_v32 : Ref sig .tc := ⟨.hbm, 56, rfl⟩
abbrev main_v33 : Ref sig .tc := ⟨.hbm, 57, rfl⟩
abbrev main_cst_10 : Ref sig .tc := ⟨.hbm, 58, rfl⟩
abbrev main_v34 : Ref sig .tc := ⟨.hbm, 59, rfl⟩
abbrev main_v35 : Ref sig .tc := ⟨.hbm, 60, rfl⟩
abbrev main_cst_11 : Ref sig .tc := ⟨.hbm, 61, rfl⟩
abbrev main_call2_v0 : Ref sig .tc := ⟨.hbm, 62, rfl⟩
abbrev main_call2_v1 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_12 : Ref sig .tc := ⟨.hbm, 69, rfl⟩
abbrev main_cst_13 : Ref sig .tc := ⟨.hbm, 70, rfl⟩
abbrev main_call4_v0 : Ref sig .tc := ⟨.hbm, 71, rfl⟩
abbrev main_call4_v1 : Ref sig .tc := ⟨.hbm, 72, rfl⟩
abbrev main_call4_v2 : Ref sig .tc := ⟨.hbm, 73, rfl⟩
abbrev main_call4_v3 : Ref sig .tc := ⟨.hbm, 74, rfl⟩
abbrev main_call4_v4 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_c : Ref sig .tc := ⟨.hbm, 80, rfl⟩
abbrev main_v45 : Ref sig .tc := ⟨.hbm, 81, rfl⟩
abbrev main_v46 : Ref sig .tc := ⟨.hbm, 82, rfl⟩
abbrev main_c_14 : Ref sig .tc := ⟨.hbm, 83, rfl⟩
abbrev main_v47 : Ref sig .tc := ⟨.hbm, 84, rfl⟩
abbrev main_v48 : Ref sig .tc := ⟨.hbm, 85, rfl⟩
abbrev main_c_15 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_c_16 : Ref sig .tc := ⟨.hbm, 93, rfl⟩
abbrev main_v55 : Ref sig .tc := ⟨.hbm, 94, rfl⟩
abbrev main_v56 : Ref sig .tc := ⟨.hbm, 95, rfl⟩
abbrev main_c_17 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_c_18 : Ref sig .tc := ⟨.hbm, 108, rfl⟩
abbrev main_call6_v0 : Ref sig .tc := ⟨.hbm, 109, rfl⟩
abbrev main_call6_v1 : Ref sig .tc := ⟨.hbm, 110, rfl⟩
abbrev main_call6_v2 : Ref sig .tc := ⟨.hbm, 111, rfl⟩
abbrev main_v68 : Ref sig .tc := ⟨.hbm, 112, rfl⟩
abbrev main_c_19 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_c_20 : Ref sig .tc := ⟨.hbm, 127, rfl⟩
abbrev main_call7_v0 : Ref sig .tc := ⟨.hbm, 128, rfl⟩
abbrev main_call7_v1 : Ref sig .tc := ⟨.hbm, 129, rfl⟩
abbrev main_call7_v2 : Ref sig .tc := ⟨.hbm, 130, rfl⟩
abbrev main_v82 : Ref sig .tc := ⟨.hbm, 131, rfl⟩
abbrev main_c_21 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_cst_22 : Ref sig .tc := ⟨.hbm, 149, rfl⟩
abbrev main_call8_v0 : Ref sig .tc := ⟨.hbm, 150, rfl⟩
abbrev main_call8_v1 : Ref sig .tc := ⟨.hbm, 151, rfl⟩
abbrev main_call8_v2 : Ref sig .tc := ⟨.hbm, 152, rfl⟩
abbrev main_v99 : Ref sig .tc := ⟨.hbm, 153, rfl⟩
abbrev main_cst_23 : Ref sig .tc := ⟨.hbm, 154, rfl⟩
abbrev main_v100 : Ref sig .tc := ⟨.hbm, 155, rfl⟩
abbrev main_v101 : Ref sig .tc := ⟨.hbm, 156, rfl⟩
abbrev main_cst_24 : Ref sig .tc := ⟨.hbm, 157, rfl⟩
abbrev main_v102 : Ref sig .tc := ⟨.hbm, 158, rfl⟩
abbrev main_cst_25 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_cst_26 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_cst_27 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_cst_28 : Ref sig .tc := ⟨.hbm, 171, rfl⟩
abbrev main_v112 : Ref sig .tc := ⟨.hbm, 172, rfl⟩
abbrev main_v113 : Ref sig .tc := ⟨.hbm, 173, rfl⟩
abbrev main_cst_29 : Ref sig .tc := ⟨.hbm, 174, rfl⟩
abbrev main_call9_v0 : Ref sig .tc := ⟨.hbm, 175, rfl⟩
abbrev main_call9_v1 : Ref sig .tc := ⟨.hbm, 176, rfl⟩
abbrev main_v114 : Ref sig .tc := ⟨.hbm, 177, rfl⟩
abbrev main_cst_30 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_cst_31 : Ref sig .tc := ⟨.hbm, 185, rfl⟩
abbrev main_cst_32 : Ref sig .tc := ⟨.hbm, 186, rfl⟩
abbrev main_call10_v0 : Ref sig .tc := ⟨.hbm, 187, rfl⟩
abbrev main_call10_v1 : Ref sig .tc := ⟨.hbm, 188, rfl⟩
abbrev main_call10_v2 : Ref sig .tc := ⟨.hbm, 189, rfl⟩
abbrev main_call10_v3 : Ref sig .tc := ⟨.hbm, 190, rfl⟩
abbrev main_call10_v4 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1536x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S160x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.MainSpec.lean ====
/- Hand-written, untrusted. The function both programs of the first pair compute: one base product, one low-rank product,
   each scaled by its token's and its output column's scale, and added. -/
module

public import Idealize.ShloMosaic.Lib.Pipeline.ValueKit
public import Idealize.ShloMosaic.Lib.Pointwise

@[expose] public section

noncomputable section

namespace Cert.MainSpec

open Idealize.ShloMosaic Idealize.SL.Sem

/-- `y[t, o] = (∑ d, X[t, d] W[d, o]) xs[t] ws[o] + (∑ r, H[t, r] U[r, o]) hs[t] us[o]`, over the extended reals. -/
def OUT (X : FVec Ideal ⟨2, ![1536, 3584]⟩ .fp8e4m3) (xs : FVec Ideal ⟨1, ![1536]⟩ .f32)
    (H : FVec Ideal ⟨2, ![1536, 160]⟩ .fp8e4m3) (hs : FVec Ideal ⟨1, ![1536]⟩ .f32)
    (W : FVec Ideal ⟨2, ![3584, 18944]⟩ .fp8e4m3) (ws : FVec Ideal ⟨1, ![18944]⟩ .f32)
    (U : FVec Ideal ⟨2, ![160, 18944]⟩ .fp8e4m3) (us : FVec Ideal ⟨1, ![18944]⟩ .f32) :
    FVec Ideal ⟨2, ![1536, 18944]⟩ .bf16 := fun i =>
  ((∑ d : Fin 3584, X (ix2 (i 0) d) * W (ix2 d (i 1))) * xs (ix1 (i 0)) * ws (ix1 (i 1))
    + (∑ r : Fin 160, H (ix2 (i 0) r) * U (ix2 r (i 1))) * hs (ix1 (i 0)) * us (ix1 (i 1)) : EReal)

end Cert.MainSpec

end
-- ==== Proof.MainValue.lean ====
/- Hand-written, untrusted. What the result array of the base-plus-delta call holds after its run, over the extended reals. -/
module

public import proofs.«01_k».proof.Proof.Gen.MainIdeal.Frame
public import proofs.«01_k».proof.Proof.MainSpec
public import Idealize.ShloMosaic.Lib.Claim

@[expose] public section

set_option maxRecDepth 16384

noncomputable section

namespace Cert.MainIdeal.Hand

open Cert.MainIdeal Cert.MainIdeal.Gen Idealize.ShloMosaic Idealize.ShloMosaic.TcCoe Idealize.SL.Sem
open Idealize.ShloMosaic.Pipeline (Dat)

variable (m : (ℓ : Loc nD τ sig) → Buf (Elt Ideal) ℓ)

/-- Each window's block index at every grid point: the column windows follow the grid, the others stay. -/
theorem idx : ∀ t : Fin cfg0.N, win0_0.index t = ![0, 0] ∧ win0_1.index t = ![0, 0] ∧ win0_2.index t = ![0, 0]
    ∧ win0_3.index t = ![0, 0] ∧ win0_4.index t = ![0, t.val] ∧ win0_5.index t = ![0, t.val]
    ∧ win0_6.index t = ![0, t.val] ∧ win0_7.index t = ![0, t.val] ∧ win0_8.index t = ![0, t.val] :=
  (by decide +kernel : ∀ t : Fin grid0.N, _)

/-- The result array after the run is the stated function of the argument arrays: the column blocks tile it, and each
    block is the function read at its place. -/
theorem final (c : Dev nD) : (dats m 0 c).arrAt 8 (cfgs 0).N
    = Cert.MainSpec.OUT (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t _ y => ?_
  blk_simp
  rw [after0_8]; frame_out
  pointwise [k0_pay1, Cert.MainSpec.OUT]
  blk_point [iblk, V, idx t]

end Cert.MainIdeal.Hand

end
-- ==== Proof.MainRefValue.lean ====
/- Hand-written, untrusted. What the reference's result array holds after its run, over the extended reals. -/
module

public import proofs.«01_k».proof.Proof.Gen.MainRefIdeal.Frame
public import proofs.«01_k».proof.Proof.MainSpec
public import Idealize.ShloMosaic.Lib.Claim

@[expose] public section

set_option maxRecDepth 16384

noncomputable section

namespace Cert.MainRefIdeal.Hand

open Cert.MainRefIdeal Cert.MainRefIdeal.Gen Idealize.ShloMosaic Idealize.ShloMosaic.TcCoe Idealize.SL.Sem
open Idealize.ShloMosaic.Pipeline (Dat)

variable (m : (ℓ : Loc nD τ sig) → Buf (Elt Ideal) ℓ)

/-- Every window is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0]
    ∧ win0_6.index t = ![0, 0] ∧ win0_7.index t = ![0, 0] ∧ win0_8.index t = ![0, 0] :=
  (by decide +kernel : ∀ t : Fin grid0.N, _)

/-- The result array after the run is the stated function of the argument arrays. -/
theorem final (c : Dev nD) : (dats m 0 c).arrAt 8 (cfgs 0).N
    = Cert.MainSpec.OUT (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t _ y => ?_
  blk_simp
  rw [after0_8]; frame_out
  pointwise [k0_pay1, Cert.MainSpec.OUT]
  blk_point [iblk, V, idx t]

end Cert.MainRefIdeal.Hand

end
-- ==== Proof.LoraLoop.lean ====
/- Hand-written, untrusted. The loop over the tenants: what holds before each trip, and that one trip keeps it. -/
module

public import proofs.«01_k».proof.Proof.Gen.Lora.Loops

@[expose] public section

set_option maxRecDepth 8192
set_option maxHeartbeats 4000000

noncomputable section

namespace Cert.Lora.Hand

open Cert.Lora.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- Before each trip: the table, the packed cores and their scales as they were, the scratch at some contents. -/
abbrev inv_k0_t1 (c : Dev nD) (arg1 : Memref sig .tc .smem S41 .i32) (arg5 : Memref sig .tc .vmem S41x80x160 .i8) (arg6 : Memref sig .tc .vmem S41x160 .f32) (arg15 : Memref sig .tc .vmem S256x160 .f32)
    (X1 : Buf (Elt F) (arg1.view.loc (c : Thread nD τ))) (X5 : BufTy.Contents (Elt F) arg5.view.ty) (X6 : BufTy.Contents (Elt F) arg6.view.ty) (k : ℕ) (acc : BitVec 32) : sProp (MT nD τ sig Unit (Elt F) ℕ (UR sig nD τ) ℕ) :=
  iprop((arg1.view.loc (c : Thread nD τ) ↦{fullShare.right} X1) ∗ (arg5.view.loc (c : Thread nD τ) ↦[arg5.view.set]{fullShare} X5) ∗ (arg6.view.loc (c : Thread nD τ) ↦[arg6.view.set]{fullShare} X6) ∗ (∃ f, (arg15.view.loc (c : Thread nD τ) ↦[arg15.view.set]{fullShare} f)))

set_option warn.classDefReducibility false in
/-- One trip keeps it, whether the tenant has rows in the block or not. -/
@[sl_loop] def loopInv_k0_t1 (𝒱 : Variants) (c : Dev nD) (bd : Option 𝒱.V) (E : Set ℕ) (i : grid0.Coords) (arg1 : Memref sig .tc .smem S41 .i32) (harg1 : arg1.IsWhole) (arg2 : Memref sig .tc .vmem S256x3584 .bf16) (harg2 : arg2.IsWhole) (arg3 : Memref sig .tc .vmem S160x3584 .fp8e4m3) (harg3 : arg3.IsWhole) (arg4 : Memref sig .tc .vmem S1x160 .f32) (harg4 : arg4.IsWhole) (arg5 : Memref sig .tc .vmem S41x80x160 .i8) (harg5 : arg5.IsWhole) (arg6 : Memref sig .tc .vmem S41x160 .f32) (harg6 : arg6.IsWhole) (arg7 : Memref sig .tc .vmem S256x3584 .fp8e4m3) (harg7 : arg7.IsWhole) (arg8 : Memref sig .tc .vmem S1x1x256 .f32) (harg8 : arg8.IsWhole) (arg9 : Memref sig .tc .vmem S256x160 .i8) (harg9 : arg9.IsWhole) (arg10 : Memref sig .tc .vmem S1x1x256 .f32) (harg10 : arg10.IsWhole) (arg11 : Memref sig .tc .vmem S256x160 .fp8e4m3) (harg11 : arg11.IsWhole) (arg12 : Memref sig .tc .vmem S1x1x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x160 .f32) (harg15 : arg15.IsWhole) (arg0 : BitVec 32) (v38 : FVec F S256x160 .f32) (v39 : Vec F S1x160 .f32)
    (X1 : Buf (Elt F) (arg1.view.loc (c : Thread nD τ))) (X5 : BufTy.Contents (Elt F) arg5.view.ty) (X6 : BufTy.Contents (Elt F) arg6.view.ty) (init : BitVec 32) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v38 v39 init where
  inv := inv_k0_t1 (F := F) c arg1 arg5 arg6 arg15 X1 X5 X6
  step k acc := by
    have hk : k.val < 41 := Nat.lt_of_lt_of_le k.isLt k0_t1_abs.2.1
    unfold k0_t1_body
    iintro ⟨HT, H5, H6, ⟨%f, HW⟩⟩
    sl_exec
    sl_step
    sl_close

end Cert.Lora.Hand

end
-- ==== Proof.LoraPoints.lean ====
/- Hand-written, untrusted. When each window of the activation call is fetched and written back, and the memrefs its body is handed. -/
module

public import proofs.«01_k».proof.Proof.Gen.Lora
public import Idealize.ShloMosaic.Lib.Pipeline.Kit

@[expose] public section

noncomputable section

namespace Cert.Lora.Hand

open Cert.Lora.Gen
open Idealize.ShloMosaic Idealize.ShloMosaic.TcCoe
open Idealize.SL Idealize.SL.Sem

variable {F : FTy → Type} [BitOps F]

/-- The block of rows is read in at every grid point. -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 is read in once, at the first grid point. -/
theorem fetch0_1 (a : (pcfg0 (F := F)).Adm) : ∀ t : Fin (cfg0 a).N, ((cfg0 a).win 1).fetch t = true ↔ t.val % 6 = 0 :=
  (fun t => Pipeline.Window.fetchOf_const cc0_transform_1 (fun _ _ => rfl) (n := 6) (by decide) t : ∀ t : Fin grid0.N, Pipeline.Window.fetchOf grid0 false cc0_transform_1 t = true ↔ t.val % 6 = 0)
/-- Window 2 is read in once, at the first grid point. -/
theorem fetch0_2 (a : (pcfg0 (F := F)).Adm) : ∀ t : Fin (cfg0 a).N, ((cfg0 a).win 2).fetch t = true ↔ t.val % 6 = 0 :=
  (fun t => Pipeline.Window.fetchOf_const cc0_transform_2 (fun _ _ => rfl) (n := 6) (by decide) t : ∀ t : Fin grid0.N, Pipeline.Window.fetchOf grid0 false cc0_transform_2 t = true ↔ t.val % 6 = 0)
/-- Window 3 is read in once, at the first grid point. -/
theorem fetch0_3 (a : (pcfg0 (F := F)).Adm) : ∀ t : Fin (cfg0 a).N, ((cfg0 a).win 3).fetch t = true ↔ t.val % 6 = 0 :=
  (fun t => Pipeline.Window.fetchOf_const cc0_transform_3 (fun _ _ => rfl) (n := 6) (by decide) t : ∀ t : Fin grid0.N, Pipeline.Window.fetchOf grid0 false cc0_transform_3 t = true ↔ t.val % 6 = 0)
/-- Window 4 is read in once, at the first grid point. -/
theorem fetch0_4 (a : (pcfg0 (F := F)).Adm) : ∀ t : Fin (cfg0 a).N, ((cfg0 a).win 4).fetch t = true ↔ t.val % 6 = 0 :=
  (fun t => Pipeline.Window.fetchOf_const cc0_transform_4 (fun _ _ => rfl) (n := 6) (by decide) t : ∀ t : Fin grid0.N, Pipeline.Window.fetchOf grid0 false cc0_transform_4 t = true ↔ t.val % 6 = 0)
/-- Window 5 is written back at every grid point. -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)
/-- Window 6 is written back at every grid point. -/
theorem flush0_6 (a : (pcfg0 (F := F)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 0 (fun _ => rfl) (by decide)) (P := 1) (m := 0) (by decide) rfl t).mpr (Nat.mod_one _) : ∀ t : Fin grid0.N, Pipeline.Window.flushOf grid0 true cc0_transform_6 t = true)
/-- Window 7 is written back at every grid point. -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)
/-- Window 8 is written back at every grid point. -/
theorem flush0_8 (a : (pcfg0 (F := F)).Adm) : ∀ t : Fin (cfg0 a).N, ((cfg0 a).win 8).flush t = true :=
  (fun t => (Pipeline.Window.flushOf_reads cc0_transform_8 reads0_8 hreads0_8 0 (by decide) (by decide) (Pipeline.Window.sep_of_coord cc0_transform_8 0 0 (fun _ => rfl) (by decide)) (P := 1) (m := 0) (by decide) rfl t).mpr (Nat.mod_one _) : ∀ t : Fin grid0.N, Pipeline.Window.flushOf grid0 true cc0_transform_8 t = true)
/-- Window 9 is written back at every grid point. -/
theorem flush0_9 (a : (pcfg0 (F := F)).Adm) : ∀ t : Fin (cfg0 a).N, ((cfg0 a).win 9).flush t = true :=
  (fun t => (Pipeline.Window.flushOf_reads cc0_transform_9 reads0_9 hreads0_9 0 (by decide) (by decide) (Pipeline.Window.sep_of_coord cc0_transform_9 0 0 (fun _ => rfl) (by decide)) (P := 1) (m := 0) (by decide) rfl t).mpr (Nat.mod_one _) : ∀ t : Fin grid0.N, Pipeline.Window.flushOf grid0 true cc0_transform_9 t = true)
/-- Window 10 is written back at every grid point. -/
theorem flush0_10 (a : (pcfg0 (F := F)).Adm) : ∀ t : Fin (cfg0 a).N, ((cfg0 a).win 10).flush t = true :=
  (fun t => (Pipeline.Window.flushOf_reads cc0_transform_10 reads0_10 hreads0_10 0 (by decide) (by decide) (Pipeline.Window.sep_of_coord cc0_transform_10 0 0 (fun _ => rfl) (by decide)) (P := 1) (m := 0) (by decide) rfl t).mpr (Nat.mod_one _) : ∀ t : Fin grid0.N, Pipeline.Window.flushOf grid0 true cc0_transform_10 t = true)
/-- Window 11 is written back at every grid point. -/
theorem flush0_11 (a : (pcfg0 (F := F)).Adm) : ∀ t : Fin (cfg0 a).N, ((cfg0 a).win 11).flush t = true :=
  (fun t => (Pipeline.Window.flushOf_reads cc0_transform_11 reads0_11 hreads0_11 0 (by decide) (by decide) (Pipeline.Window.sep_of_coord cc0_transform_11 0 0 (fun _ => rfl) (by decide)) (P := 1) (m := 0) (by decide) rfl t).mpr (Nat.mod_one _) : ∀ t : Fin grid0.N, Pipeline.Window.flushOf grid0 true cc0_transform_11 t = true)
/-- Window 12 is written back at every grid point. -/
theorem flush0_12 (a : (pcfg0 (F := F)).Adm) : ∀ t : Fin (cfg0 a).N, ((cfg0 a).win 12).flush t = true :=
  (fun t => (Pipeline.Window.flushOf_reads cc0_transform_12 reads0_12 hreads0_12 0 (by decide) (by decide) (Pipeline.Window.sep_of_coord cc0_transform_12 0 0 (fun _ => rfl) (by decide)) (P := 1) (m := 0) (by decide) rfl t).mpr (Nat.mod_one _) : ∀ t : Fin grid0.N, Pipeline.Window.flushOf grid0 true cc0_transform_12 t = true)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)

abbrev bodyAt0 (a : (pcfg0 (F := F)).Adm) (t : Fin (cfg0 a).N) : Prog (TpuEff nD τ sig (Elt F) Λ₀ .tc) PUnit :=
  cc0_lora_codes (grid0.coords t) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _)

end Cert.Lora.Hand

end
-- ==== Proof.LoraRuns.lean ====
/- Hand-written, untrusted. The launch of the activation call as the pipeline finds it: arrays, the table of group sizes, the blocks of the windows. -/
module

public import proofs.«01_k».proof.Proof.Gen.Lora.Launch
public import proofs.«01_k».proof.Proof.Gen.Lora.Skeleton
public import proofs.«01_k».proof.Proof.LoraLoop
public import proofs.«01_k».proof.Proof.LoraPoints
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Lora.Hand

open Cert.Lora.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

set_option maxHeartbeats 800000 in
/-- The program is its one grid, launched at the argument arrays. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- Argument 0 when the grid begins. -/
theorem V_main_arg0 (c : Dev nD) : V m c main_arg0 = m ((c : Thread nD τ).loc main_arg0) := rfl
/-- Argument 1 when the grid begins. -/
theorem V_main_arg1 (c : Dev nD) : V m c main_arg1 = m ((c : Thread nD τ).loc main_arg1) := rfl
/-- Argument 2 when the grid begins. -/
theorem V_main_arg2 (c : Dev nD) : V m c main_arg2 = m ((c : Thread nD τ).loc main_arg2) := rfl
/-- Argument 3 when the grid begins. -/
theorem V_main_arg3 (c : Dev nD) : V m c main_arg3 = m ((c : Thread nD τ).loc main_arg3) := rfl
/-- Argument 4 when the grid begins. -/
theorem V_main_arg4 (c : Dev nD) : V m c main_arg4 = m ((c : Thread nD τ).loc main_arg4) := rfl
/-- Argument 5 when the grid begins. -/
theorem V_main_arg5 (c : Dev nD) : V m c main_arg5 = m ((c : Thread nD τ).loc main_arg5) := rfl

def tbl : pre0.Contents (Elt F) := fun j => V m (0 : Dev nD) (pre0.ref j)
/-- The table read before the grid is the array of sizes. -/
theorem V_pre (c : Dev nD) (j : Fin 1) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S41 .i32 := Memref.whole main_arg5
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- What the grid keeps of that table. -/
theorem PhiT0_eq (c : Dev nD) : (Pipeline.ΦT pre0 (tbl m) c : sProp (MT nD τ sig Unit (Elt F) ℕ (UR sig nD τ) ℕ)) = iprop(tbPt0 c tbM0_0 (tbl m 0)) := by
  unfold Pipeline.ΦT Pipeline.prefHeld
  rw [show (Finset.univ : Finset (Fin 1)) = {(0 : Fin 1)} from by decide, bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Window 0 holds its block before the body. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1 holds its block before the body. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2 holds its block before the body. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3 holds its block before the body. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Window 4 holds its block before the body. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- A run that ends with the arrays as stated leaves the arguments unchanged. -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      ((h c).2 main_arg5 (by decide : main_arg5 ∈ Pipeline.restRefs sig spec0)).trans (V_main_arg5 m c)⟩) h

abbrev ms0_0 (hO : Ok m) (t : Fin (cfgM m hO).N) : Memref sig .tc .vmem S256x3584 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S160x3584 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x160 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S41x80x160 .i8 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S41x160 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S256x3584 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x256 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S256x160 .i8 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x1x256 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S256x160 .fp8e4m3 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x1x256 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S256x128 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S256x128 .f32 := spec0_12.stage ((cfgM m hO).slots t 12)
abbrev hs0_12 (hO : Ok m) (t : Fin (cfgM m hO).N) : (ms0_12 m hO t).IsWhole := hstage0_12 (((cfgM m hO).slots t 12).cast nbuf0_12)
abbrev scM0_0 : Memref sig .tc .vmem S256x160 .f32 := Memref.whole cc0_scratch0

/-- What the body keeps beside its windows: the scratch and the register of random numbers. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

end Cert.Lora.Hand

end
-- ==== Proof.LoraRunA.lean ====
/- Hand-written, untrusted. One run of the kernel body, with what it leaves in each output. -/
module

public import proofs.«01_k».proof.Proof.LoraRuns

@[expose] public section

set_option maxRecDepth 16384

noncomputable section

namespace Cert.Lora.Hand

open Cert.Lora.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

set_option maxHeartbeats 1000000 in
/-- One run of the body: from any contents of its buffers it ends, and these are the contents it leaves. -/
theorem kernelRun0_A (c : Dev nD) (i : grid0.Coords) (arg2 : Memref sig .tc .vmem S256x3584 .bf16) (harg2 : arg2.IsWhole) (arg3 : Memref sig .tc .vmem S160x3584 .fp8e4m3) (harg3 : arg3.IsWhole) (arg4 : Memref sig .tc .vmem S1x160 .f32) (harg4 : arg4.IsWhole) (arg5 : Memref sig .tc .vmem S41x80x160 .i8) (harg5 : arg5.IsWhole) (arg6 : Memref sig .tc .vmem S41x160 .f32) (harg6 : arg6.IsWhole) (arg7 : Memref sig .tc .vmem S256x3584 .fp8e4m3) (harg7 : arg7.IsWhole) (arg8 : Memref sig .tc .vmem S1x1x256 .f32) (harg8 : arg8.IsWhole) (arg9 : Memref sig .tc .vmem S256x160 .i8) (harg9 : arg9.IsWhole) (arg10 : Memref sig .tc .vmem S1x1x256 .f32) (harg10 : arg10.IsWhole) (arg11 : Memref sig .tc .vmem S256x160 .fp8e4m3) (harg11 : arg11.IsWhole) (arg12 : Memref sig .tc .vmem S1x1x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x160 .f32) (harg15 : arg15.IsWhole)
    (x0 : Vec F S256x3584 .bf16) (x1 : Vec F S160x3584 .fp8e4m3) (x2 : Vec F S1x160 .f32) (x3 : Vec F S41x80x160 .i8) (x4 : Vec F S41x160 .f32) (xt0 : TbBuf0 (F := F) c tbM0_0) :
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0) -∗ K ⟨⟩))
          ⊢ wp frame (wpE (defs₀ (F := F)) Variants.none c none) E (cc0_lora_codes i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0_lora_codes_eq_skeleton]; unfold cc0_lora_codes_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, HT0, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    iexact HT0

end Cert.Lora.Hand

end
-- ==== Proof.LoraFrame.lean ====
/- Hand-written, untrusted. The frame of the activation call: the proof data of its pipeline, the body at every point, the run. -/
module

public import proofs.«01_k».proof.Proof.LoraRunA
public import Idealize.ShloMosaic.Lib.Claim

@[expose] public section

set_option maxRecDepth 16384

noncomputable section

namespace Cert.Lora.Hand

open Cert.Lora.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

def forgets0 : Fin 13 → Bool := fun w => w.val == 5 || w.val == 6 || w.val == 7 || w.val == 8 || w.val == 9 || w.val == 10 || w.val == 11 || w.val == 12

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, h⟩ => Pipeline.Dat.unnamed (cfg := (cfgM m hO)) ⟨5, h⟩ t
    | ⟨6, h⟩ => Pipeline.Dat.unnamed (cfg := (cfgM m hO)) ⟨6, h⟩ t
    | ⟨7, h⟩ => Pipeline.Dat.unnamed (cfg := (cfgM m hO)) ⟨7, h⟩ t
    | ⟨8, h⟩ => Pipeline.Dat.unnamed (cfg := (cfgM m hO)) ⟨8, h⟩ t
    | ⟨9, h⟩ => Pipeline.Dat.unnamed (cfg := (cfgM m hO)) ⟨9, h⟩ t
    | ⟨10, h⟩ => Pipeline.Dat.unnamed (cfg := (cfgM m hO)) ⟨10, h⟩ t
    | ⟨11, h⟩ => Pipeline.Dat.unnamed (cfg := (cfgM m hO)) ⟨11, h⟩ t
    | ⟨12, h⟩ => Pipeline.Dat.unnamed (cfg := (cfgM m hO)) ⟨12, h⟩ t
  Φ _ := iprop(Pipeline.ΦA spec0 c ∗ Pipeline.ΦT pre0 (tbl m) c)
  q _ := fullShare
  owed _ := 0

/-- Every window's array starts at its contents when the grid begins. -/
theorem A_eq (hO : Ok m) (c : Dev nD) (w : Fin (cfgM m hO).W) : (dats m hO 0 c).A w = V m c (Pipeline.arrRef spec0 w) := by
  dsimp only [dats]

/-- What window 0 holds after the body. -/
theorem after0_0 (hO : Ok m) (c : Dev nD) (t : Fin (cfgM m hO).N) : (dats m hO 0 c).after 0 t = iblk m hO c 0 t := by dsimp only [dats]; try rfl
/-- What window 1 holds after the body. -/
theorem after0_1 (hO : Ok m) (c : Dev nD) (t : Fin (cfgM m hO).N) : (dats m hO 0 c).after 1 t = iblk m hO c 1 t := by dsimp only [dats]; try rfl
/-- What window 2 holds after the body. -/
theorem after0_2 (hO : Ok m) (c : Dev nD) (t : Fin (cfgM m hO).N) : (dats m hO 0 c).after 2 t = iblk m hO c 2 t := by dsimp only [dats]; try rfl
/-- What window 3 holds after the body. -/
theorem after0_3 (hO : Ok m) (c : Dev nD) (t : Fin (cfgM m hO).N) : (dats m hO 0 c).after 3 t = iblk m hO c 3 t := by dsimp only [dats]; try rfl
/-- What window 4 holds after the body. -/
theorem after0_4 (hO : Ok m) (c : Dev nD) (t : Fin (cfgM m hO).N) : (dats m hO 0 c).after 4 t = iblk m hO c 4 t := by dsimp only [dats]; try rfl

/-- Window 0 holds its block before the body. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- Window 1 holds its block before the body. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- Window 2 holds its block before the body. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
/-- Window 3 holds its block before the body. -/
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
/-- Window 4 holds its block before the body. -/
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare d)
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d)
    ∗ (∃ d, owns (c : Thread nD τ) (ms0_12 m hO t) fullShare d))

def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ (∃ d, owns (c : Thread nD τ) (ms0_5 m hO t) fullShare d)
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d)
    ∗ (∃ d, owns (c : Thread nD τ) (ms0_12 m hO t) fullShare d))

set_option maxHeartbeats 1200000 in
/-- The body, run at any grid point, takes its buffers from the state before it to the state after it. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq, PhiA0_eq]
  iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun0_A c (grid0.coords t) _ _ _ _ _ _ _ _ _ _ _ _ _ _ _ _ _ _ _ _ _ _ _ _ _ _ _ _ (iblk m hO c 0 t) (iblk m hO c 1 t) (iblk m hO c 2 t) (iblk m hO c 3 t) (iblk m hO c 4 t) (tbl m 0)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HT0]; · iexact HT0
  iintro ⟨H0, H1, H2, H3, H4, H5, H6, H7, H8, H9, H10, H11, H12, HS0, HT0⟩
  isplitl [HS0 Hg HT0]
  · isplitl [HS0 Hg]
    · isplitl [HS0]
      · iexact HS0
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body as the grid calls it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body meets what the grid asks of it at every grid point. -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

set_option backward.isDefEq.respectTransparency.types false in
/-- The whole program ends, every array as stated and every semaphore at zero. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- The whole program ends, every array as stated. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- The arguments end as they began. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (fun c => (dats m hO 0 c).toRForget forgets0) (A_eq m hO) (run_main m ρ hO)

/-- The program ends without fault, its arguments unchanged and its semaphores at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.Lora.Hand

end
-- ==== Proof.LoraIdealLoop.lean ====
/- Hand-written, untrusted. The loop over the tenants: what holds before each trip, and that one trip keeps it. -/
module

public import proofs.«01_k».proof.Proof.Gen.LoraIdeal.Loops

@[expose] public section

set_option maxRecDepth 8192
set_option maxHeartbeats 4000000

noncomputable section

namespace Cert.LoraIdeal.Hand

open Cert.LoraIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The table's word of tenant `k`: how many rows it owns. -/
def word (c : Dev nD) (arg1 : Memref sig .tc .smem S41 .i32) (X1 : Buf (Elt F) (arg1.view.loc (c : Thread nD τ))) (k : Fin k0_t1_loop.trips) : BitVec 32 :=
  View.readAt (Elt F) arg1.view (Rect.unit (s := S41) (k0_off1 k) S1.size (k0_off1_inb k)).toLoadRect X1 (Shape.Idx.first (numel1_S1.symm ▸ Nat.one_pos))

/-- The row tenant `k` starts at: the words of the tenants before it, added up. -/
def startOf (c : Dev nD) (arg1 : Memref sig .tc .smem S41 .i32) (X1 : Buf (Elt F) (arg1.view.loc (c : Thread nD τ))) (init : BitVec 32) : ℕ → BitVec 32
  | 0 => init
  | k + 1 => if h : k < k0_t1_loop.trips then Scalar.addi (startOf c arg1 X1 init k) (word c arg1 X1 ⟨k, h⟩) else startOf c arg1 X1 init k

/-- Whether a tenant of the rows from `a` up to `b` has a row in block `arg0`. -/
def hasRows (arg0 a b : BitVec 32) : BitVec 1 :=
  Scalar.cmpi .ne (Scalar.extui (Scalar.andi (Scalar.andi (Scalar.cmpi .sgt b a) (Scalar.cmpi .slt a (Scalar.muli (Scalar.addi arg0 1#32) 256#32))) (Scalar.cmpi .sgt b (Scalar.muli arg0 256#32))) : BitVec 32) 0#32

/-- The scratch before tenant `k`. -/
def hAt (c : Dev nD) (arg1 : Memref sig .tc .smem S41 .i32) (arg5 : Memref sig .tc .vmem S41x80x160 .i8) (arg6 : Memref sig .tc .vmem S41x160 .f32) (arg15 : Memref sig .tc .vmem S256x160 .f32) (arg0 : BitVec 32) (v38 : FVec F S256x160 .f32) (v39 : Vec F S1x160 .f32)
    (X1 : Buf (Elt F) (arg1.view.loc (c : Thread nD τ))) (X5 : BufTy.Contents (Elt F) arg5.view.ty) (X6 : BufTy.Contents (Elt F) arg6.view.ty) (G : BufTy.Contents (Elt F) arg15.view.ty) (init : BitVec 32) : ℕ → BufTy.Contents (Elt F) arg15.view.ty
  | 0 => G
  | k + 1 => if h : k < k0_t1_loop.trips then
      (if hc : hasRows arg0 (startOf c arg1 X1 init k) (Scalar.addi (startOf c arg1 X1 init k) (word c arg1 X1 ⟨k, h⟩)) = 1#1 then
        arg15.view.writes (Elt F) (hAt c arg1 arg5 arg6 arg15 arg0 v38 v39 X1 X5 X6 G init k)
          [⟨Rect.unit ![0, 0] S256x160.size inb_S256x160_S256x160_0_0,
            k0_pay14 arg0 v38 v39 (startOf c arg1 X1 init k) (word c arg1 X1 ⟨k, h⟩)
              (View.readAt (Elt F) arg5.view (Rect.unit (s := S41x80x160) (k0_off2 ⟨k, h⟩) S1x80x160.size (k0_off2_inb ⟨k, h⟩)).toLoadRect X5)
              (View.readAt (Elt F) arg6.view (Rect.unit (s := S41x160) (k0_off3 ⟨k, h⟩) S1x160.size (k0_off3_inb ⟨k, h⟩)).toLoadRect X6)
              (View.readAt (Elt F) arg15.view (Rect.unit (s := S256x160) ![0, 0] S256x160.size inb_S256x160_S256x160_0_0).toLoadRect (hAt c arg1 arg5 arg6 arg15 arg0 v38 v39 X1 X5 X6 G init k))⟩]
      else hAt c arg1 arg5 arg6 arg15 arg0 v38 v39 X1 X5 X6 G init k)
    else hAt c arg1 arg5 arg6 arg15 arg0 v38 v39 X1 X5 X6 G init k

/-- Before each trip: the table, the packed cores and their scales as they were, the scratch and the carried row as named. -/
abbrev inv_k0_t1 (c : Dev nD) (arg1 : Memref sig .tc .smem S41 .i32) (arg5 : Memref sig .tc .vmem S41x80x160 .i8) (arg6 : Memref sig .tc .vmem S41x160 .f32) (arg15 : Memref sig .tc .vmem S256x160 .f32) (arg0 : BitVec 32) (v38 : FVec F S256x160 .f32) (v39 : Vec F S1x160 .f32)
    (X1 : Buf (Elt F) (arg1.view.loc (c : Thread nD τ))) (X5 : BufTy.Contents (Elt F) arg5.view.ty) (X6 : BufTy.Contents (Elt F) arg6.view.ty) (G : BufTy.Contents (Elt F) arg15.view.ty) (init : BitVec 32) (k : ℕ) (acc : BitVec 32) : sProp (MT nD τ sig Unit (Elt F) ℕ (UR sig nD τ) ℕ) :=
  iprop((arg1.view.loc (c : Thread nD τ) ↦{fullShare.right} X1) ∗ (arg5.view.loc (c : Thread nD τ) ↦[arg5.view.set]{fullShare} X5) ∗ (arg6.view.loc (c : Thread nD τ) ↦[arg6.view.set]{fullShare} X6) ∗ (∃ f, (arg15.view.loc (c : Thread nD τ) ↦[arg15.view.set]{fullShare} f) ∗ ⌜f = hAt c arg1 arg5 arg6 arg15 arg0 v38 v39 X1 X5 X6 G init k⌝) ∗ ⌜acc = startOf c arg1 X1 init k⌝)

set_option warn.classDefReducibility false in
/-- One trip keeps it, whether the tenant has rows in the block or not. -/
@[sl_loop] def loopInv_k0_t1 (𝒱 : Variants) (c : Dev nD) (bd : Option 𝒱.V) (E : Set ℕ) (i : grid0.Coords) (arg1 : Memref sig .tc .smem S41 .i32) (harg1 : arg1.IsWhole) (arg2 : Memref sig .tc .vmem S256x3584 .bf16) (harg2 : arg2.IsWhole) (arg3 : Memref sig .tc .vmem S160x3584 .fp8e4m3) (harg3 : arg3.IsWhole) (arg4 : Memref sig .tc .vmem S1x160 .f32) (harg4 : arg4.IsWhole) (arg5 : Memref sig .tc .vmem S41x80x160 .i8) (harg5 : arg5.IsWhole) (arg6 : Memref sig .tc .vmem S41x160 .f32) (harg6 : arg6.IsWhole) (arg7 : Memref sig .tc .vmem S256x3584 .fp8e4m3) (harg7 : arg7.IsWhole) (arg8 : Memref sig .tc .vmem S1x1x256 .f32) (harg8 : arg8.IsWhole) (arg9 : Memref sig .tc .vmem S256x160 .i8) (harg9 : arg9.IsWhole) (arg10 : Memref sig .tc .vmem S1x1x256 .f32) (harg10 : arg10.IsWhole) (arg11 : Memref sig .tc .vmem S256x160 .fp8e4m3) (harg11 : arg11.IsWhole) (arg12 : Memref sig .tc .vmem S1x1x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x160 .f32) (harg15 : arg15.IsWhole) (arg0 : BitVec 32) (v38 : FVec F S256x160 .f32) (v39 : Vec F S1x160 .f32)
    (X1 : Buf (Elt F) (arg1.view.loc (c : Thread nD τ))) (X5 : BufTy.Contents (Elt F) arg5.view.ty) (X6 : BufTy.Contents (Elt F) arg6.view.ty) (G : BufTy.Contents (Elt F) arg15.view.ty) (init : BitVec 32) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v38 v39 init where
  inv := inv_k0_t1 (F := F) c arg1 arg5 arg6 arg15 arg0 v38 v39 X1 X5 X6 G init
  step k acc := by
    have hk : k.val < 41 := Nat.lt_of_lt_of_le k.isLt k0_t1_abs.2.1
    unfold k0_t1_body
    iintro ⟨HT, H5, H6, ⟨%f, HW, %hf⟩, %hacc⟩
    subst hf hacc
    sl_exec
    sl_step
    isplitl [HT]; · iexact HT
    isplitl [H5]; · iexact H5
    isplitl [H6]; · iexact H6
    isplitl [HW]
    · iexists _; isplitl [HW]; · iexact HW
      ipureintro
      rw [hAt, dif_pos k.isLt]; rfl
    ipureintro
    rw [startOf, dif_pos k.isLt]; rfl

end Cert.LoraIdeal.Hand

end
-- ==== Proof.LoraIdealPoints.lean ====
/- Hand-written, untrusted. When each window of the activation call is fetched and written back, and the memrefs its body is handed. -/
module

public import proofs.«01_k».proof.Proof.Gen.LoraIdeal
public import Idealize.ShloMosaic.Lib.Pipeline.Kit

@[expose] public section

noncomputable section

namespace Cert.LoraIdeal.Hand

open Cert.LoraIdeal.Gen
open Idealize.ShloMosaic Idealize.ShloMosaic.TcCoe
open Idealize.SL Idealize.SL.Sem

variable {F : FTy → Type} [FloatOps F]

/-- The block of rows is read in at every grid point. -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 is read in once, at the first grid point. -/
theorem fetch0_1 (a : (pcfg0 (F := F)).Adm) : ∀ t : Fin (cfg0 a).N, ((cfg0 a).win 1).fetch t = true ↔ t.val % 6 = 0 :=
  (fun t => Pipeline.Window.fetchOf_const cc0_transform_1 (fun _ _ => rfl) (n := 6) (by decide) t : ∀ t : Fin grid0.N, Pipeline.Window.fetchOf grid0 false cc0_transform_1 t = true ↔ t.val % 6 = 0)
/-- Window 2 is read in once, at the first grid point. -/
theorem fetch0_2 (a : (pcfg0 (F := F)).Adm) : ∀ t : Fin (cfg0 a).N, ((cfg0 a).win 2).fetch t = true ↔ t.val % 6 = 0 :=
  (fun t => Pipeline.Window.fetchOf_const cc0_transform_2 (fun _ _ => rfl) (n := 6) (by decide) t : ∀ t : Fin grid0.N, Pipeline.Window.fetchOf grid0 false cc0_transform_2 t = true ↔ t.val % 6 = 0)
/-- Window 3 is read in once, at the first grid point. -/
theorem fetch0_3 (a : (pcfg0 (F := F)).Adm) : ∀ t : Fin (cfg0 a).N, ((cfg0 a).win 3).fetch t = true ↔ t.val % 6 = 0 :=
  (fun t => Pipeline.Window.fetchOf_const cc0_transform_3 (fun _ _ => rfl) (n := 6) (by decide) t : ∀ t : Fin grid0.N, Pipeline.Window.fetchOf grid0 false cc0_transform_3 t = true ↔ t.val % 6 = 0)
/-- Window 4 is read in once, at the first grid point. -/
theorem fetch0_4 (a : (pcfg0 (F := F)).Adm) : ∀ t : Fin (cfg0 a).N, ((cfg0 a).win 4).fetch t = true ↔ t.val % 6 = 0 :=
  (fun t => Pipeline.Window.fetchOf_const cc0_transform_4 (fun _ _ => rfl) (n := 6) (by decide) t : ∀ t : Fin grid0.N, Pipeline.Window.fetchOf grid0 false cc0_transform_4 t = true ↔ t.val % 6 = 0)
/-- Window 5 is written back at every grid point. -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)
/-- Window 6 is written back at every grid point. -/
theorem flush0_6 (a : (pcfg0 (F := F)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 0 (fun _ => rfl) (by decide)) (P := 1) (m := 0) (by decide) rfl t).mpr (Nat.mod_one _) : ∀ t : Fin grid0.N, Pipeline.Window.flushOf grid0 true cc0_transform_6 t = true)
/-- Window 7 is written back at every grid point. -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)
/-- Window 8 is written back at every grid point. -/
theorem flush0_8 (a : (pcfg0 (F := F)).Adm) : ∀ t : Fin (cfg0 a).N, ((cfg0 a).win 8).flush t = true :=
  (fun t => (Pipeline.Window.flushOf_reads cc0_transform_8 reads0_8 hreads0_8 0 (by decide) (by decide) (Pipeline.Window.sep_of_coord cc0_transform_8 0 0 (fun _ => rfl) (by decide)) (P := 1) (m := 0) (by decide) rfl t).mpr (Nat.mod_one _) : ∀ t : Fin grid0.N, Pipeline.Window.flushOf grid0 true cc0_transform_8 t = true)
/-- Window 9 is written back at every grid point. -/
theorem flush0_9 (a : (pcfg0 (F := F)).Adm) : ∀ t : Fin (cfg0 a).N, ((cfg0 a).win 9).flush t = true :=
  (fun t => (Pipeline.Window.flushOf_reads cc0_transform_9 reads0_9 hreads0_9 0 (by decide) (by decide) (Pipeline.Window.sep_of_coord cc0_transform_9 0 0 (fun _ => rfl) (by decide)) (P := 1) (m := 0) (by decide) rfl t).mpr (Nat.mod_one _) : ∀ t : Fin grid0.N, Pipeline.Window.flushOf grid0 true cc0_transform_9 t = true)
/-- Window 10 is written back at every grid point. -/
theorem flush0_10 (a : (pcfg0 (F := F)).Adm) : ∀ t : Fin (cfg0 a).N, ((cfg0 a).win 10).flush t = true :=
  (fun t => (Pipeline.Window.flushOf_reads cc0_transform_10 reads0_10 hreads0_10 0 (by decide) (by decide) (Pipeline.Window.sep_of_coord cc0_transform_10 0 0 (fun _ => rfl) (by decide)) (P := 1) (m := 0) (by decide) rfl t).mpr (Nat.mod_one _) : ∀ t : Fin grid0.N, Pipeline.Window.flushOf grid0 true cc0_transform_10 t = true)
/-- Window 11 is written back at every grid point. -/
theorem flush0_11 (a : (pcfg0 (F := F)).Adm) : ∀ t : Fin (cfg0 a).N, ((cfg0 a).win 11).flush t = true :=
  (fun t => (Pipeline.Window.flushOf_reads cc0_transform_11 reads0_11 hreads0_11 0 (by decide) (by decide) (Pipeline.Window.sep_of_coord cc0_transform_11 0 0 (fun _ => rfl) (by decide)) (P := 1) (m := 0) (by decide) rfl t).mpr (Nat.mod_one _) : ∀ t : Fin grid0.N, Pipeline.Window.flushOf grid0 true cc0_transform_11 t = true)
/-- Window 12 is written back at every grid point. -/
theorem flush0_12 (a : (pcfg0 (F := F)).Adm) : ∀ t : Fin (cfg0 a).N, ((cfg0 a).win 12).flush t = true :=
  (fun t => (Pipeline.Window.flushOf_reads cc0_transform_12 reads0_12 hreads0_12 0 (by decide) (by decide) (Pipeline.Window.sep_of_coord cc0_transform_12 0 0 (fun _ => rfl) (by decide)) (P := 1) (m := 0) (by decide) rfl t).mpr (Nat.mod_one _) : ∀ t : Fin grid0.N, Pipeline.Window.flushOf grid0 true cc0_transform_12 t = true)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)

abbrev bodyAt0 (a : (pcfg0 (F := F)).Adm) (t : Fin (cfg0 a).N) : Prog (TpuEff nD τ sig (Elt F) Λ₀ .tc) PUnit :=
  cc0_lora_codes (grid0.coords t) (Memref.whole main_arg5) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _)

end Cert.LoraIdeal.Hand

end
-- ==== Proof.LoraIdealRuns.lean ====
/- Hand-written, untrusted. The launch of the activation call as the pipeline finds it: arrays, the table of group sizes, the blocks of the windows. -/
module

public import proofs.«01_k».proof.Proof.Gen.LoraIdeal.Launch
public import proofs.«01_k».proof.Proof.Gen.LoraIdeal.Skeleton
public import proofs.«01_k».proof.Proof.LoraIdealLoop
public import proofs.«01_k».proof.Proof.LoraIdealPoints
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.LoraIdeal.Hand

open Cert.LoraIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

set_option maxHeartbeats 800000 in
/-- The program is its one grid, launched at the argument arrays. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- Argument 0 when the grid begins. -/
theorem V_main_arg0 (c : Dev nD) : V m c main_arg0 = m ((c : Thread nD τ).loc main_arg0) := rfl
/-- Argument 1 when the grid begins. -/
theorem V_main_arg1 (c : Dev nD) : V m c main_arg1 = m ((c : Thread nD τ).loc main_arg1) := rfl
/-- Argument 2 when the grid begins. -/
theorem V_main_arg2 (c : Dev nD) : V m c main_arg2 = m ((c : Thread nD τ).loc main_arg2) := rfl
/-- Argument 3 when the grid begins. -/
theorem V_main_arg3 (c : Dev nD) : V m c main_arg3 = m ((c : Thread nD τ).loc main_arg3) := rfl
/-- Argument 4 when the grid begins. -/
theorem V_main_arg4 (c : Dev nD) : V m c main_arg4 = m ((c : Thread nD τ).loc main_arg4) := rfl
/-- Argument 5 when the grid begins. -/
theorem V_main_arg5 (c : Dev nD) : V m c main_arg5 = m ((c : Thread nD τ).loc main_arg5) := rfl

def tbl : pre0.Contents (Elt F) := fun j => V m (0 : Dev nD) (pre0.ref j)
/-- The table read before the grid is the array of sizes. -/
theorem V_pre (c : Dev nD) (j : Fin 1) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S41 .i32 := Memref.whole main_arg5
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- What the grid keeps of that table. -/
theorem PhiT0_eq (c : Dev nD) : (Pipeline.ΦT pre0 (tbl m) c : sProp (MT nD τ sig Unit (Elt F) ℕ (UR sig nD τ) ℕ)) = iprop(tbPt0 c tbM0_0 (tbl m 0)) := by
  unfold Pipeline.ΦT Pipeline.prefHeld
  rw [show (Finset.univ : Finset (Fin 1)) = {(0 : Fin 1)} from by decide, bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Window 0 holds its block before the body. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1 holds its block before the body. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2 holds its block before the body. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3 holds its block before the body. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Window 4 holds its block before the body. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- A run that ends with the arrays as stated leaves the arguments unchanged. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).2 main_arg5 (by decide : main_arg5 ∈ Pipeline.restRefs sig spec0)).trans (V_main_arg5 m c)⟩) h

abbrev VO0_5 : View sig .tc .vmem S256x3584 .fp8e4m3 := (Memref.whole cc0_stg5_0 : Memref sig .tc .vmem S256x3584 .fp8e4m3).view
abbrev VO0_6 : View sig .tc .vmem S1x1x256 .f32 := (Memref.whole cc0_stg6_0 : Memref sig .tc .vmem S1x1x256 .f32).view
abbrev VO0_7 : View sig .tc .vmem S256x160 .i8 := (Memref.whole cc0_stg7_0 : Memref sig .tc .vmem S256x160 .i8).view
abbrev VO0_8 : View sig .tc .vmem S1x1x256 .f32 := (Memref.whole cc0_stg8_0 : Memref sig .tc .vmem S1x1x256 .f32).view
abbrev VO0_9 : View sig .tc .vmem S256x160 .fp8e4m3 := (Memref.whole cc0_stg9_0 : Memref sig .tc .vmem S256x160 .fp8e4m3).view
abbrev VO0_10 : View sig .tc .vmem S1x1x256 .f32 := (Memref.whole cc0_stg10_0 : Memref sig .tc .vmem S1x1x256 .f32).view
abbrev VO0_11 : View sig .tc .vmem S256x128 .f32 := (Memref.whole cc0_stg11_0 : Memref sig .tc .vmem S256x128 .f32).view
abbrev VO0_12 : View sig .tc .vmem S256x128 .f32 := (Memref.whole cc0_stg12_0 : Memref sig .tc .vmem S256x128 .f32).view
abbrev ms0_0 (hO : Ok m) (t : Fin (cfgM m hO).N) : Memref sig .tc .vmem S256x3584 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S160x3584 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x160 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S41x80x160 .i8 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S41x160 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S256x3584 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x256 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S256x160 .i8 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x1x256 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S256x160 .fp8e4m3 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x1x256 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S256x128 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S256x128 .f32 := spec0_12.stage ((cfgM m hO).slots t 12)
abbrev hs0_12 (hO : Ok m) (t : Fin (cfgM m hO).N) : (ms0_12 m hO t).IsWhole := hstage0_12 (((cfgM m hO).slots t 12).cast nbuf0_12)
abbrev scM0_0 : Memref sig .tc .vmem S256x160 .f32 := Memref.whole cc0_scratch0

/-- What the body keeps beside its windows: the scratch and the register of random numbers. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

end Cert.LoraIdeal.Hand

end
-- ==== Proof.LoraIdealRunA.lean ====
/- Hand-written, untrusted. One run of the kernel body, with what it leaves in each output. -/
module

public import proofs.«01_k».proof.Proof.LoraIdealRuns

@[expose] public section

set_option maxRecDepth 16384

noncomputable section

namespace Cert.LoraIdeal.Hand

open Cert.LoraIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S256x3584 .bf16) (harg2 : arg2.IsWhole) (arg3 : Memref sig .tc .vmem S160x3584 .fp8e4m3) (harg3 : arg3.IsWhole) (arg4 : Memref sig .tc .vmem S1x160 .f32) (harg4 : arg4.IsWhole) (arg5 : Memref sig .tc .vmem S41x80x160 .i8) (harg5 : arg5.IsWhole) (arg6 : Memref sig .tc .vmem S41x160 .f32) (harg6 : arg6.IsWhole) (arg7 : Memref sig .tc .vmem S256x3584 .fp8e4m3) (harg7 : arg7.IsWhole) (arg8 : Memref sig .tc .vmem S1x1x256 .f32) (harg8 : arg8.IsWhole) (arg9 : Memref sig .tc .vmem S256x160 .i8) (harg9 : arg9.IsWhole) (arg10 : Memref sig .tc .vmem S1x1x256 .f32) (harg10 : arg10.IsWhole) (arg11 : Memref sig .tc .vmem S256x160 .fp8e4m3) (harg11 : arg11.IsWhole) (arg12 : Memref sig .tc .vmem S1x1x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x160 .f32) (harg15 : arg15.IsWhole)
    (x0 : Vec F S256x3584 .bf16) (x1 : Vec F S160x3584 .fp8e4m3) (x2 : Vec F S1x160 .f32) (x3 : Vec F S41x80x160 .i8) (x4 : Vec F S41x160 .f32) (xt0 : TbBuf0 (F := F) c tbM0_0) :
    Σ' (L5 : List (View.Piece (Elt F) S256x3584 .fp8e4m3)), Σ' (L6 : List (View.Piece (Elt F) S1x1x256 .f32)), Σ' (L7 : List (View.Piece (Elt F) S256x160 .i8)), Σ' (L8 : List (View.Piece (Elt F) S1x1x256 .f32)), Σ' (L9 : List (View.Piece (Elt F) S256x160 .fp8e4m3)), Σ' (L10 : List (View.Piece (Elt F) S1x1x256 .f32)), Σ' (L11 : List (View.Piece (Elt F) S256x128 .f32)), { L12 : List (View.Piece (Elt F) S256x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ d, owns (c : Thread nD τ) arg15 fullShare d) ∗ tbPt0 c tbM0_0 xt0) -∗ K ⟨⟩))
          ⊢ wp frame (wpE (defs₀ (F := F)) Variants.none c none) E (cc0_lora_codes i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, fun E K => ?run⟩
  case run =>
    simp only [cc0_lora_codes_eq_skeleton]; unfold cc0_lora_codes_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, HT0, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]
    · iexists _, _; isplitr; swap; · iexact HS0
      ipureintro; rfl
    iexact HT0

end Cert.LoraIdeal.Hand

end
-- ==== Proof.LoraIdealFrame.lean ====
/- Hand-written, untrusted. The frame of the activation call: the proof data of its pipeline, the body at every point, the run. -/
module

public import proofs.«01_k».proof.Proof.LoraIdealRunA
public import Idealize.ShloMosaic.Lib.Claim

@[expose] public section

set_option maxRecDepth 16384

noncomputable section

namespace Cert.LoraIdeal.Hand

open Cert.LoraIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- The body writes all of window 5's block. -/
theorem cover0_A_5 (c : Dev nD) (i : grid0.Coords) (arg2 : Memref sig .tc .vmem S256x3584 .bf16) (harg2 : arg2.IsWhole) (arg3 : Memref sig .tc .vmem S160x3584 .fp8e4m3) (harg3 : arg3.IsWhole) (arg4 : Memref sig .tc .vmem S1x160 .f32) (harg4 : arg4.IsWhole) (arg5 : Memref sig .tc .vmem S41x80x160 .i8) (harg5 : arg5.IsWhole) (arg6 : Memref sig .tc .vmem S41x160 .f32) (harg6 : arg6.IsWhole) (arg7 : Memref sig .tc .vmem S256x3584 .fp8e4m3) (harg7 : arg7.IsWhole) (arg8 : Memref sig .tc .vmem S1x1x256 .f32) (harg8 : arg8.IsWhole) (arg9 : Memref sig .tc .vmem S256x160 .i8) (harg9 : arg9.IsWhole) (arg10 : Memref sig .tc .vmem S1x1x256 .f32) (harg10 : arg10.IsWhole) (arg11 : Memref sig .tc .vmem S256x160 .fp8e4m3) (harg11 : arg11.IsWhole) (arg12 : Memref sig .tc .vmem S1x1x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x160 .f32) (harg15 : arg15.IsWhole)
    (x0 : Vec F S256x3584 .bf16) (x1 : Vec F S160x3584 .fp8e4m3) (x2 : Vec F S1x160 .f32) (x3 : Vec F S41x80x160 .i8) (x4 : Vec F S41x160 .f32) (xt0 : TbBuf0 (F := F) c tbM0_0) (y : S256x3584.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xt0).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xt0).1 S256x3584.size (by sl_kernel_rfl) y

def out0_A_5 (c : Dev nD) (i : grid0.Coords) (arg2 : Memref sig .tc .vmem S256x3584 .bf16) (harg2 : arg2.IsWhole) (arg3 : Memref sig .tc .vmem S160x3584 .fp8e4m3) (harg3 : arg3.IsWhole) (arg4 : Memref sig .tc .vmem S1x160 .f32) (harg4 : arg4.IsWhole) (arg5 : Memref sig .tc .vmem S41x80x160 .i8) (harg5 : arg5.IsWhole) (arg6 : Memref sig .tc .vmem S41x160 .f32) (harg6 : arg6.IsWhole) (arg7 : Memref sig .tc .vmem S256x3584 .fp8e4m3) (harg7 : arg7.IsWhole) (arg8 : Memref sig .tc .vmem S1x1x256 .f32) (harg8 : arg8.IsWhole) (arg9 : Memref sig .tc .vmem S256x160 .i8) (harg9 : arg9.IsWhole) (arg10 : Memref sig .tc .vmem S1x1x256 .f32) (harg10 : arg10.IsWhole) (arg11 : Memref sig .tc .vmem S256x160 .fp8e4m3) (harg11 : arg11.IsWhole) (arg12 : Memref sig .tc .vmem S1x1x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x160 .f32) (harg15 : arg15.IsWhole)
    (x0 : Vec F S256x3584 .bf16) (x1 : Vec F S160x3584 .fp8e4m3) (x2 : Vec F S1x160 .f32) (x3 : Vec F S41x80x160 .i8) (x4 : Vec F S41x160 .f32) (xt0 : TbBuf0 (F := F) c tbM0_0) : Vec F S256x3584 .fp8e4m3 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xt0).1)

/-- The body writes all of window 6's block. -/
theorem cover0_A_6 (c : Dev nD) (i : grid0.Coords) (arg2 : Memref sig .tc .vmem S256x3584 .bf16) (harg2 : arg2.IsWhole) (arg3 : Memref sig .tc .vmem S160x3584 .fp8e4m3) (harg3 : arg3.IsWhole) (arg4 : Memref sig .tc .vmem S1x160 .f32) (harg4 : arg4.IsWhole) (arg5 : Memref sig .tc .vmem S41x80x160 .i8) (harg5 : arg5.IsWhole) (arg6 : Memref sig .tc .vmem S41x160 .f32) (harg6 : arg6.IsWhole) (arg7 : Memref sig .tc .vmem S256x3584 .fp8e4m3) (harg7 : arg7.IsWhole) (arg8 : Memref sig .tc .vmem S1x1x256 .f32) (harg8 : arg8.IsWhole) (arg9 : Memref sig .tc .vmem S256x160 .i8) (harg9 : arg9.IsWhole) (arg10 : Memref sig .tc .vmem S1x1x256 .f32) (harg10 : arg10.IsWhole) (arg11 : Memref sig .tc .vmem S256x160 .fp8e4m3) (harg11 : arg11.IsWhole) (arg12 : Memref sig .tc .vmem S1x1x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x160 .f32) (harg15 : arg15.IsWhole)
    (x0 : Vec F S256x3584 .bf16) (x1 : Vec F S160x3584 .fp8e4m3) (x2 : Vec F S1x160 .f32) (x3 : Vec F S41x80x160 .i8) (x4 : Vec F S41x160 .f32) (xt0 : TbBuf0 (F := F) c tbM0_0) (y : S1x1x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xt0).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xt0).2.1 S1x1x256.size (by sl_kernel_rfl) y

def out0_A_6 (c : Dev nD) (i : grid0.Coords) (arg2 : Memref sig .tc .vmem S256x3584 .bf16) (harg2 : arg2.IsWhole) (arg3 : Memref sig .tc .vmem S160x3584 .fp8e4m3) (harg3 : arg3.IsWhole) (arg4 : Memref sig .tc .vmem S1x160 .f32) (harg4 : arg4.IsWhole) (arg5 : Memref sig .tc .vmem S41x80x160 .i8) (harg5 : arg5.IsWhole) (arg6 : Memref sig .tc .vmem S41x160 .f32) (harg6 : arg6.IsWhole) (arg7 : Memref sig .tc .vmem S256x3584 .fp8e4m3) (harg7 : arg7.IsWhole) (arg8 : Memref sig .tc .vmem S1x1x256 .f32) (harg8 : arg8.IsWhole) (arg9 : Memref sig .tc .vmem S256x160 .i8) (harg9 : arg9.IsWhole) (arg10 : Memref sig .tc .vmem S1x1x256 .f32) (harg10 : arg10.IsWhole) (arg11 : Memref sig .tc .vmem S256x160 .fp8e4m3) (harg11 : arg11.IsWhole) (arg12 : Memref sig .tc .vmem S1x1x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x160 .f32) (harg15 : arg15.IsWhole)
    (x0 : Vec F S256x3584 .bf16) (x1 : Vec F S160x3584 .fp8e4m3) (x2 : Vec F S1x160 .f32) (x3 : Vec F S41x80x160 .i8) (x4 : Vec F S41x160 .f32) (xt0 : TbBuf0 (F := F) c tbM0_0) : Vec F S1x1x256 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xt0).2.1)

/-- The body writes all of window 7's block. -/
theorem cover0_A_7 (c : Dev nD) (i : grid0.Coords) (arg2 : Memref sig .tc .vmem S256x3584 .bf16) (harg2 : arg2.IsWhole) (arg3 : Memref sig .tc .vmem S160x3584 .fp8e4m3) (harg3 : arg3.IsWhole) (arg4 : Memref sig .tc .vmem S1x160 .f32) (harg4 : arg4.IsWhole) (arg5 : Memref sig .tc .vmem S41x80x160 .i8) (harg5 : arg5.IsWhole) (arg6 : Memref sig .tc .vmem S41x160 .f32) (harg6 : arg6.IsWhole) (arg7 : Memref sig .tc .vmem S256x3584 .fp8e4m3) (harg7 : arg7.IsWhole) (arg8 : Memref sig .tc .vmem S1x1x256 .f32) (harg8 : arg8.IsWhole) (arg9 : Memref sig .tc .vmem S256x160 .i8) (harg9 : arg9.IsWhole) (arg10 : Memref sig .tc .vmem S1x1x256 .f32) (harg10 : arg10.IsWhole) (arg11 : Memref sig .tc .vmem S256x160 .fp8e4m3) (harg11 : arg11.IsWhole) (arg12 : Memref sig .tc .vmem S1x1x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x160 .f32) (harg15 : arg15.IsWhole)
    (x0 : Vec F S256x3584 .bf16) (x1 : Vec F S160x3584 .fp8e4m3) (x2 : Vec F S1x160 .f32) (x3 : Vec F S41x80x160 .i8) (x4 : Vec F S41x160 .f32) (xt0 : TbBuf0 (F := F) c tbM0_0) (y : S256x160.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xt0).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xt0).2.2.1 S256x160.size (by sl_kernel_rfl) y

def out0_A_7 (c : Dev nD) (i : grid0.Coords) (arg2 : Memref sig .tc .vmem S256x3584 .bf16) (harg2 : arg2.IsWhole) (arg3 : Memref sig .tc .vmem S160x3584 .fp8e4m3) (harg3 : arg3.IsWhole) (arg4 : Memref sig .tc .vmem S1x160 .f32) (harg4 : arg4.IsWhole) (arg5 : Memref sig .tc .vmem S41x80x160 .i8) (harg5 : arg5.IsWhole) (arg6 : Memref sig .tc .vmem S41x160 .f32) (harg6 : arg6.IsWhole) (arg7 : Memref sig .tc .vmem S256x3584 .fp8e4m3) (harg7 : arg7.IsWhole) (arg8 : Memref sig .tc .vmem S1x1x256 .f32) (harg8 : arg8.IsWhole) (arg9 : Memref sig .tc .vmem S256x160 .i8) (harg9 : arg9.IsWhole) (arg10 : Memref sig .tc .vmem S1x1x256 .f32) (harg10 : arg10.IsWhole) (arg11 : Memref sig .tc .vmem S256x160 .fp8e4m3) (harg11 : arg11.IsWhole) (arg12 : Memref sig .tc .vmem S1x1x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x160 .f32) (harg15 : arg15.IsWhole)
    (x0 : Vec F S256x3584 .bf16) (x1 : Vec F S160x3584 .fp8e4m3) (x2 : Vec F S1x160 .f32) (x3 : Vec F S41x80x160 .i8) (x4 : Vec F S41x160 .f32) (xt0 : TbBuf0 (F := F) c tbM0_0) : Vec F S256x160 .i8 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xt0).2.2.1)

/-- The body writes all of window 8's block. -/
theorem cover0_A_8 (c : Dev nD) (i : grid0.Coords) (arg2 : Memref sig .tc .vmem S256x3584 .bf16) (harg2 : arg2.IsWhole) (arg3 : Memref sig .tc .vmem S160x3584 .fp8e4m3) (harg3 : arg3.IsWhole) (arg4 : Memref sig .tc .vmem S1x160 .f32) (harg4 : arg4.IsWhole) (arg5 : Memref sig .tc .vmem S41x80x160 .i8) (harg5 : arg5.IsWhole) (arg6 : Memref sig .tc .vmem S41x160 .f32) (harg6 : arg6.IsWhole) (arg7 : Memref sig .tc .vmem S256x3584 .fp8e4m3) (harg7 : arg7.IsWhole) (arg8 : Memref sig .tc .vmem S1x1x256 .f32) (harg8 : arg8.IsWhole) (arg9 : Memref sig .tc .vmem S256x160 .i8) (harg9 : arg9.IsWhole) (arg10 : Memref sig .tc .vmem S1x1x256 .f32) (harg10 : arg10.IsWhole) (arg11 : Memref sig .tc .vmem S256x160 .fp8e4m3) (harg11 : arg11.IsWhole) (arg12 : Memref sig .tc .vmem S1x1x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x160 .f32) (harg15 : arg15.IsWhole)
    (x0 : Vec F S256x3584 .bf16) (x1 : Vec F S160x3584 .fp8e4m3) (x2 : Vec F S1x160 .f32) (x3 : Vec F S41x80x160 .i8) (x4 : Vec F S41x160 .f32) (xt0 : TbBuf0 (F := F) c tbM0_0) (y : S1x1x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xt0).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xt0).2.2.2.1 S1x1x256.size (by sl_kernel_rfl) y

def out0_A_8 (c : Dev nD) (i : grid0.Coords) (arg2 : Memref sig .tc .vmem S256x3584 .bf16) (harg2 : arg2.IsWhole) (arg3 : Memref sig .tc .vmem S160x3584 .fp8e4m3) (harg3 : arg3.IsWhole) (arg4 : Memref sig .tc .vmem S1x160 .f32) (harg4 : arg4.IsWhole) (arg5 : Memref sig .tc .vmem S41x80x160 .i8) (harg5 : arg5.IsWhole) (arg6 : Memref sig .tc .vmem S41x160 .f32) (harg6 : arg6.IsWhole) (arg7 : Memref sig .tc .vmem S256x3584 .fp8e4m3) (harg7 : arg7.IsWhole) (arg8 : Memref sig .tc .vmem S1x1x256 .f32) (harg8 : arg8.IsWhole) (arg9 : Memref sig .tc .vmem S256x160 .i8) (harg9 : arg9.IsWhole) (arg10 : Memref sig .tc .vmem S1x1x256 .f32) (harg10 : arg10.IsWhole) (arg11 : Memref sig .tc .vmem S256x160 .fp8e4m3) (harg11 : arg11.IsWhole) (arg12 : Memref sig .tc .vmem S1x1x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x160 .f32) (harg15 : arg15.IsWhole)
    (x0 : Vec F S256x3584 .bf16) (x1 : Vec F S160x3584 .fp8e4m3) (x2 : Vec F S1x160 .f32) (x3 : Vec F S41x80x160 .i8) (x4 : Vec F S41x160 .f32) (xt0 : TbBuf0 (F := F) c tbM0_0) : Vec F S1x1x256 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xt0).2.2.2.1)

/-- The body writes all of window 9's block. -/
theorem cover0_A_9 (c : Dev nD) (i : grid0.Coords) (arg2 : Memref sig .tc .vmem S256x3584 .bf16) (harg2 : arg2.IsWhole) (arg3 : Memref sig .tc .vmem S160x3584 .fp8e4m3) (harg3 : arg3.IsWhole) (arg4 : Memref sig .tc .vmem S1x160 .f32) (harg4 : arg4.IsWhole) (arg5 : Memref sig .tc .vmem S41x80x160 .i8) (harg5 : arg5.IsWhole) (arg6 : Memref sig .tc .vmem S41x160 .f32) (harg6 : arg6.IsWhole) (arg7 : Memref sig .tc .vmem S256x3584 .fp8e4m3) (harg7 : arg7.IsWhole) (arg8 : Memref sig .tc .vmem S1x1x256 .f32) (harg8 : arg8.IsWhole) (arg9 : Memref sig .tc .vmem S256x160 .i8) (harg9 : arg9.IsWhole) (arg10 : Memref sig .tc .vmem S1x1x256 .f32) (harg10 : arg10.IsWhole) (arg11 : Memref sig .tc .vmem S256x160 .fp8e4m3) (harg11 : arg11.IsWhole) (arg12 : Memref sig .tc .vmem S1x1x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x160 .f32) (harg15 : arg15.IsWhole)
    (x0 : Vec F S256x3584 .bf16) (x1 : Vec F S160x3584 .fp8e4m3) (x2 : Vec F S1x160 .f32) (x3 : Vec F S41x80x160 .i8) (x4 : Vec F S41x160 .f32) (xt0 : TbBuf0 (F := F) c tbM0_0) (y : S256x160.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xt0).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xt0).2.2.2.2.1 S256x160.size (by sl_kernel_rfl) y

def out0_A_9 (c : Dev nD) (i : grid0.Coords) (arg2 : Memref sig .tc .vmem S256x3584 .bf16) (harg2 : arg2.IsWhole) (arg3 : Memref sig .tc .vmem S160x3584 .fp8e4m3) (harg3 : arg3.IsWhole) (arg4 : Memref sig .tc .vmem S1x160 .f32) (harg4 : arg4.IsWhole) (arg5 : Memref sig .tc .vmem S41x80x160 .i8) (harg5 : arg5.IsWhole) (arg6 : Memref sig .tc .vmem S41x160 .f32) (harg6 : arg6.IsWhole) (arg7 : Memref sig .tc .vmem S256x3584 .fp8e4m3) (harg7 : arg7.IsWhole) (arg8 : Memref sig .tc .vmem S1x1x256 .f32) (harg8 : arg8.IsWhole) (arg9 : Memref sig .tc .vmem S256x160 .i8) (harg9 : arg9.IsWhole) (arg10 : Memref sig .tc .vmem S1x1x256 .f32) (harg10 : arg10.IsWhole) (arg11 : Memref sig .tc .vmem S256x160 .fp8e4m3) (harg11 : arg11.IsWhole) (arg12 : Memref sig .tc .vmem S1x1x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x160 .f32) (harg15 : arg15.IsWhole)
    (x0 : Vec F S256x3584 .bf16) (x1 : Vec F S160x3584 .fp8e4m3) (x2 : Vec F S1x160 .f32) (x3 : Vec F S41x80x160 .i8) (x4 : Vec F S41x160 .f32) (xt0 : TbBuf0 (F := F) c tbM0_0) : Vec F S256x160 .fp8e4m3 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xt0).2.2.2.2.1)

/-- The body writes all of window 10's block. -/
theorem cover0_A_10 (c : Dev nD) (i : grid0.Coords) (arg2 : Memref sig .tc .vmem S256x3584 .bf16) (harg2 : arg2.IsWhole) (arg3 : Memref sig .tc .vmem S160x3584 .fp8e4m3) (harg3 : arg3.IsWhole) (arg4 : Memref sig .tc .vmem S1x160 .f32) (harg4 : arg4.IsWhole) (arg5 : Memref sig .tc .vmem S41x80x160 .i8) (harg5 : arg5.IsWhole) (arg6 : Memref sig .tc .vmem S41x160 .f32) (harg6 : arg6.IsWhole) (arg7 : Memref sig .tc .vmem S256x3584 .fp8e4m3) (harg7 : arg7.IsWhole) (arg8 : Memref sig .tc .vmem S1x1x256 .f32) (harg8 : arg8.IsWhole) (arg9 : Memref sig .tc .vmem S256x160 .i8) (harg9 : arg9.IsWhole) (arg10 : Memref sig .tc .vmem S1x1x256 .f32) (harg10 : arg10.IsWhole) (arg11 : Memref sig .tc .vmem S256x160 .fp8e4m3) (harg11 : arg11.IsWhole) (arg12 : Memref sig .tc .vmem S1x1x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x160 .f32) (harg15 : arg15.IsWhole)
    (x0 : Vec F S256x3584 .bf16) (x1 : Vec F S160x3584 .fp8e4m3) (x2 : Vec F S1x160 .f32) (x3 : Vec F S41x80x160 .i8) (x4 : Vec F S41x160 .f32) (xt0 : TbBuf0 (F := F) c tbM0_0) (y : S1x1x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xt0).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xt0).2.2.2.2.2.1 S1x1x256.size (by sl_kernel_rfl) y

def out0_A_10 (c : Dev nD) (i : grid0.Coords) (arg2 : Memref sig .tc .vmem S256x3584 .bf16) (harg2 : arg2.IsWhole) (arg3 : Memref sig .tc .vmem S160x3584 .fp8e4m3) (harg3 : arg3.IsWhole) (arg4 : Memref sig .tc .vmem S1x160 .f32) (harg4 : arg4.IsWhole) (arg5 : Memref sig .tc .vmem S41x80x160 .i8) (harg5 : arg5.IsWhole) (arg6 : Memref sig .tc .vmem S41x160 .f32) (harg6 : arg6.IsWhole) (arg7 : Memref sig .tc .vmem S256x3584 .fp8e4m3) (harg7 : arg7.IsWhole) (arg8 : Memref sig .tc .vmem S1x1x256 .f32) (harg8 : arg8.IsWhole) (arg9 : Memref sig .tc .vmem S256x160 .i8) (harg9 : arg9.IsWhole) (arg10 : Memref sig .tc .vmem S1x1x256 .f32) (harg10 : arg10.IsWhole) (arg11 : Memref sig .tc .vmem S256x160 .fp8e4m3) (harg11 : arg11.IsWhole) (arg12 : Memref sig .tc .vmem S1x1x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x160 .f32) (harg15 : arg15.IsWhole)
    (x0 : Vec F S256x3584 .bf16) (x1 : Vec F S160x3584 .fp8e4m3) (x2 : Vec F S1x160 .f32) (x3 : Vec F S41x80x160 .i8) (x4 : Vec F S41x160 .f32) (xt0 : TbBuf0 (F := F) c tbM0_0) : Vec F S1x1x256 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xt0).2.2.2.2.2.1)

/-- The body writes all of window 11's block. -/
theorem cover0_A_11 (c : Dev nD) (i : grid0.Coords) (arg2 : Memref sig .tc .vmem S256x3584 .bf16) (harg2 : arg2.IsWhole) (arg3 : Memref sig .tc .vmem S160x3584 .fp8e4m3) (harg3 : arg3.IsWhole) (arg4 : Memref sig .tc .vmem S1x160 .f32) (harg4 : arg4.IsWhole) (arg5 : Memref sig .tc .vmem S41x80x160 .i8) (harg5 : arg5.IsWhole) (arg6 : Memref sig .tc .vmem S41x160 .f32) (harg6 : arg6.IsWhole) (arg7 : Memref sig .tc .vmem S256x3584 .fp8e4m3) (harg7 : arg7.IsWhole) (arg8 : Memref sig .tc .vmem S1x1x256 .f32) (harg8 : arg8.IsWhole) (arg9 : Memref sig .tc .vmem S256x160 .i8) (harg9 : arg9.IsWhole) (arg10 : Memref sig .tc .vmem S1x1x256 .f32) (harg10 : arg10.IsWhole) (arg11 : Memref sig .tc .vmem S256x160 .fp8e4m3) (harg11 : arg11.IsWhole) (arg12 : Memref sig .tc .vmem S1x1x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x160 .f32) (harg15 : arg15.IsWhole)
    (x0 : Vec F S256x3584 .bf16) (x1 : Vec F S160x3584 .fp8e4m3) (x2 : Vec F S1x160 .f32) (x3 : Vec F S41x80x160 .i8) (x4 : Vec F S41x160 .f32) (xt0 : TbBuf0 (F := F) c tbM0_0) (y : S256x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xt0).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xt0).2.2.2.2.2.2.1 S256x128.size (by sl_kernel_rfl) y

def out0_A_11 (c : Dev nD) (i : grid0.Coords) (arg2 : Memref sig .tc .vmem S256x3584 .bf16) (harg2 : arg2.IsWhole) (arg3 : Memref sig .tc .vmem S160x3584 .fp8e4m3) (harg3 : arg3.IsWhole) (arg4 : Memref sig .tc .vmem S1x160 .f32) (harg4 : arg4.IsWhole) (arg5 : Memref sig .tc .vmem S41x80x160 .i8) (harg5 : arg5.IsWhole) (arg6 : Memref sig .tc .vmem S41x160 .f32) (harg6 : arg6.IsWhole) (arg7 : Memref sig .tc .vmem S256x3584 .fp8e4m3) (harg7 : arg7.IsWhole) (arg8 : Memref sig .tc .vmem S1x1x256 .f32) (harg8 : arg8.IsWhole) (arg9 : Memref sig .tc .vmem S256x160 .i8) (harg9 : arg9.IsWhole) (arg10 : Memref sig .tc .vmem S1x1x256 .f32) (harg10 : arg10.IsWhole) (arg11 : Memref sig .tc .vmem S256x160 .fp8e4m3) (harg11 : arg11.IsWhole) (arg12 : Memref sig .tc .vmem S1x1x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x160 .f32) (harg15 : arg15.IsWhole)
    (x0 : Vec F S256x3584 .bf16) (x1 : Vec F S160x3584 .fp8e4m3) (x2 : Vec F S1x160 .f32) (x3 : Vec F S41x80x160 .i8) (x4 : Vec F S41x160 .f32) (xt0 : TbBuf0 (F := F) c tbM0_0) : Vec F S256x128 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xt0).2.2.2.2.2.2.1)

/-- The body writes all of window 12's block. -/
theorem cover0_A_12 (c : Dev nD) (i : grid0.Coords) (arg2 : Memref sig .tc .vmem S256x3584 .bf16) (harg2 : arg2.IsWhole) (arg3 : Memref sig .tc .vmem S160x3584 .fp8e4m3) (harg3 : arg3.IsWhole) (arg4 : Memref sig .tc .vmem S1x160 .f32) (harg4 : arg4.IsWhole) (arg5 : Memref sig .tc .vmem S41x80x160 .i8) (harg5 : arg5.IsWhole) (arg6 : Memref sig .tc .vmem S41x160 .f32) (harg6 : arg6.IsWhole) (arg7 : Memref sig .tc .vmem S256x3584 .fp8e4m3) (harg7 : arg7.IsWhole) (arg8 : Memref sig .tc .vmem S1x1x256 .f32) (harg8 : arg8.IsWhole) (arg9 : Memref sig .tc .vmem S256x160 .i8) (harg9 : arg9.IsWhole) (arg10 : Memref sig .tc .vmem S1x1x256 .f32) (harg10 : arg10.IsWhole) (arg11 : Memref sig .tc .vmem S256x160 .fp8e4m3) (harg11 : arg11.IsWhole) (arg12 : Memref sig .tc .vmem S1x1x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x160 .f32) (harg15 : arg15.IsWhole)
    (x0 : Vec F S256x3584 .bf16) (x1 : Vec F S160x3584 .fp8e4m3) (x2 : Vec F S1x160 .f32) (x3 : Vec F S41x80x160 .i8) (x4 : Vec F S41x160 .f32) (xt0 : TbBuf0 (F := F) c tbM0_0) (y : S256x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xt0).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xt0).2.2.2.2.2.2.2.1 S256x128.size (by sl_kernel_rfl) y

def out0_A_12 (c : Dev nD) (i : grid0.Coords) (arg2 : Memref sig .tc .vmem S256x3584 .bf16) (harg2 : arg2.IsWhole) (arg3 : Memref sig .tc .vmem S160x3584 .fp8e4m3) (harg3 : arg3.IsWhole) (arg4 : Memref sig .tc .vmem S1x160 .f32) (harg4 : arg4.IsWhole) (arg5 : Memref sig .tc .vmem S41x80x160 .i8) (harg5 : arg5.IsWhole) (arg6 : Memref sig .tc .vmem S41x160 .f32) (harg6 : arg6.IsWhole) (arg7 : Memref sig .tc .vmem S256x3584 .fp8e4m3) (harg7 : arg7.IsWhole) (arg8 : Memref sig .tc .vmem S1x1x256 .f32) (harg8 : arg8.IsWhole) (arg9 : Memref sig .tc .vmem S256x160 .i8) (harg9 : arg9.IsWhole) (arg10 : Memref sig .tc .vmem S1x1x256 .f32) (harg10 : arg10.IsWhole) (arg11 : Memref sig .tc .vmem S256x160 .fp8e4m3) (harg11 : arg11.IsWhole) (arg12 : Memref sig .tc .vmem S1x1x256 .f32) (harg12 : arg12.IsWhole) (arg13 : Memref sig .tc .vmem S256x128 .f32) (harg13 : arg13.IsWhole) (arg14 : Memref sig .tc .vmem S256x128 .f32) (harg14 : arg14.IsWhole) (arg15 : Memref sig .tc .vmem S256x160 .f32) (harg15 : arg15.IsWhole)
    (x0 : Vec F S256x3584 .bf16) (x1 : Vec F S160x3584 .fp8e4m3) (x2 : Vec F S1x160 .f32) (x3 : Vec F S41x80x160 .i8) (x4 : Vec F S41x160 .f32) (xt0 : TbBuf0 (F := F) c tbM0_0) : Vec F S256x128 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 xt0).2.2.2.2.2.2.2.1)

def outsAt0 (hO : Ok m) (c : Dev nD) (t : Fin (cfgM m hO).N) : Vec F S256x3584 .fp8e4m3 × Vec F S1x1x256 .f32 × Vec F S256x160 .i8 × Vec F S1x1x256 .f32 × Vec F S256x160 .fp8e4m3 × Vec F S1x1x256 .f32 × Vec F S256x128 .f32 × Vec F S256x128 .f32 :=
  (out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (iblk m hO c 0 t) (iblk m hO c 1 t) (iblk m hO c 2 t) (iblk m hO c 3 t) (iblk m hO c 4 t) (tbl m 0), out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (iblk m hO c 0 t) (iblk m hO c 1 t) (iblk m hO c 2 t) (iblk m hO c 3 t) (iblk m hO c 4 t) (tbl m 0), out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (iblk m hO c 0 t) (iblk m hO c 1 t) (iblk m hO c 2 t) (iblk m hO c 3 t) (iblk m hO c 4 t) (tbl m 0), out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (iblk m hO c 0 t) (iblk m hO c 1 t) (iblk m hO c 2 t) (iblk m hO c 3 t) (iblk m hO c 4 t) (tbl m 0), out0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (iblk m hO c 0 t) (iblk m hO c 1 t) (iblk m hO c 2 t) (iblk m hO c 3 t) (iblk m hO c 4 t) (tbl m 0), out0_A_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (iblk m hO c 0 t) (iblk m hO c 1 t) (iblk m hO c 2 t) (iblk m hO c 3 t) (iblk m hO c 4 t) (tbl m 0), out0_A_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (iblk m hO c 0 t) (iblk m hO c 1 t) (iblk m hO c 2 t) (iblk m hO c 3 t) (iblk m hO c 4 t) (tbl m 0), out0_A_12 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) (iblk m hO c 0 t) (iblk m hO c 1 t) (iblk m hO c 2 t) (iblk m hO c 3 t) (iblk m hO c 4 t) (tbl m 0))

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t).1
    | ⟨6, _⟩ => (outsAt0 m hO c t).2.1
    | ⟨7, _⟩ => (outsAt0 m hO c t).2.2.1
    | ⟨8, _⟩ => (outsAt0 m hO c t).2.2.2.1
    | ⟨9, _⟩ => (outsAt0 m hO c t).2.2.2.2.1
    | ⟨10, _⟩ => (outsAt0 m hO c t).2.2.2.2.2.1
    | ⟨11, _⟩ => (outsAt0 m hO c t).2.2.2.2.2.2.1
    | ⟨12, _⟩ => (outsAt0 m hO c t).2.2.2.2.2.2.2
  Φ _ := iprop(Pipeline.ΦA spec0 c ∗ Pipeline.ΦT pre0 (tbl m) c)
  q _ := fullShare
  owed _ := 0

/-- Every window's array starts at its contents when the grid begins. -/
theorem A_eq (hO : Ok m) (c : Dev nD) (w : Fin (cfgM m hO).W) : (dats m hO 0 c).A w = V m c (Pipeline.arrRef spec0 w) := by
  dsimp only [dats]

/-- What window 0 holds after the body. -/
theorem after0_0 (hO : Ok m) (c : Dev nD) (t : Fin (cfgM m hO).N) : (dats m hO 0 c).after 0 t = iblk m hO c 0 t := by dsimp only [dats]; try rfl
/-- What window 1 holds after the body. -/
theorem after0_1 (hO : Ok m) (c : Dev nD) (t : Fin (cfgM m hO).N) : (dats m hO 0 c).after 1 t = iblk m hO c 1 t := by dsimp only [dats]; try rfl
/-- What window 2 holds after the body. -/
theorem after0_2 (hO : Ok m) (c : Dev nD) (t : Fin (cfgM m hO).N) : (dats m hO 0 c).after 2 t = iblk m hO c 2 t := by dsimp only [dats]; try rfl
/-- What window 3 holds after the body. -/
theorem after0_3 (hO : Ok m) (c : Dev nD) (t : Fin (cfgM m hO).N) : (dats m hO 0 c).after 3 t = iblk m hO c 3 t := by dsimp only [dats]; try rfl
/-- What window 4 holds after the body. -/
theorem after0_4 (hO : Ok m) (c : Dev nD) (t : Fin (cfgM m hO).N) : (dats m hO 0 c).after 4 t = iblk m hO c 4 t := by dsimp only [dats]; try rfl
/-- What window 5 holds after the body. -/
theorem after0_5 (hO : Ok m) (c : Dev nD) (t : Fin (cfgM m hO).N) : (dats m hO 0 c).after 5 t = (outsAt0 m hO c t).1 := by dsimp only [dats]; try rfl
/-- What window 6 holds after the body. -/
theorem after0_6 (hO : Ok m) (c : Dev nD) (t : Fin (cfgM m hO).N) : (dats m hO 0 c).after 6 t = (outsAt0 m hO c t).2.1 := by dsimp only [dats]; try rfl
/-- What window 7 holds after the body. -/
theorem after0_7 (hO : Ok m) (c : Dev nD) (t : Fin (cfgM m hO).N) : (dats m hO 0 c).after 7 t = (outsAt0 m hO c t).2.2.1 := by dsimp only [dats]; try rfl
/-- What window 8 holds after the body. -/
theorem after0_8 (hO : Ok m) (c : Dev nD) (t : Fin (cfgM m hO).N) : (dats m hO 0 c).after 8 t = (outsAt0 m hO c t).2.2.2.1 := by dsimp only [dats]; try rfl
/-- What window 9 holds after the body. -/
theorem after0_9 (hO : Ok m) (c : Dev nD) (t : Fin (cfgM m hO).N) : (dats m hO 0 c).after 9 t = (outsAt0 m hO c t).2.2.2.2.1 := by dsimp only [dats]; try rfl
/-- What window 10 holds after the body. -/
theorem after0_10 (hO : Ok m) (c : Dev nD) (t : Fin (cfgM m hO).N) : (dats m hO 0 c).after 10 t = (outsAt0 m hO c t).2.2.2.2.2.1 := by dsimp only [dats]; try rfl
/-- What window 11 holds after the body. -/
theorem after0_11 (hO : Ok m) (c : Dev nD) (t : Fin (cfgM m hO).N) : (dats m hO 0 c).after 11 t = (outsAt0 m hO c t).2.2.2.2.2.2.1 := by dsimp only [dats]; try rfl
/-- What window 12 holds after the body. -/
theorem after0_12 (hO : Ok m) (c : Dev nD) (t : Fin (cfgM m hO).N) : (dats m hO 0 c).after 12 t = (outsAt0 m hO c t).2.2.2.2.2.2.2 := by dsimp only [dats]; try rfl

/-- Window 0 holds its block before the body. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- Window 1 holds its block before the body. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- Window 2 holds its block before the body. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
/-- Window 3 holds its block before the body. -/
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
/-- Window 4 holds its block before the body. -/
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d)))

def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t))

set_option maxHeartbeats 1200000 in
/-- The body, run at any grid point, takes its buffers from the state before it to the state after it. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12]
  rw [show (dats m hO 0 c).Φ t.castSucc = iprop(Pipeline.ΦA spec0 c ∗ Pipeline.ΦT pre0 (tbl m) c) from rfl, PhiT0_eq, PhiA0_eq]
  unfold outsAt0
  unfold out0_A_5 out0_A_6 out0_A_7 out0_A_8 out0_A_9 out0_A_10 out0_A_11 out0_A_12; (try dsimp only)
  iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((kernelRun0_A c (grid0.coords t) _ _ _ _ _ _ _ _ _ _ _ _ _ _ _ _ _ _ _ _ _ _ _ _ _ _ _ _ (iblk m hO c 0 t) (iblk m hO c 1 t) (iblk m hO c 2 t) (iblk m hO c 3 t) (iblk m hO c 4 t) (tbl m 0)).2.2.2.2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HT0]; · iexact HT0
  iintro ⟨H0, H1, H2, H3, H4, ⟨%e5, H5⟩, ⟨%e6, H6⟩, ⟨%e7, H7⟩, ⟨%e8, H8⟩, ⟨%e9, H9⟩, ⟨%e10, H10⟩, ⟨%e11, H11⟩, ⟨%e12, H12⟩, HS0, HT0⟩
  isplitl [HS0 Hg HT0]
  · isplitl [HS0 Hg]
    · isplitl [HS0]
      · iexact HS0
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover0_A_8 c _ _ _ _ _ _ _ _ _ _ _ _ _ _ _ _ _ _ _ _ _ _ _ _ _ _ _ _ _ _ _ _ _ _ _)
  isplitl [H9]
  · unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _ _ _ _ _)
  isplitl [H10]
  · unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_of_cover _ _ _ _ _ (cover0_A_11 c _ _ _ _ _ _ _ _ _ _ _ _ _ _ _ _ _ _ _ _ _ _ _ _ _ _ _ _ _ _ _ _ _ _ _)
  unfold owns; iexists _; isplitr
  swap; · iexact H12
  ipureintro; exact View.read_writes_of_cover _ _ _ _ _ (cover0_A_12 c _ _ _ _ _ _ _ _ _ _ _ _ _ _ _ _ _ _ _ _ _ _ _ _ _ _ _ _ _ _ _ _ _ _ _)

/-- The body as the grid calls it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body meets what the grid asks of it at every grid point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

set_option backward.isDefEq.respectTransparency.types false in
/-- The whole program ends, every array as stated and every semaphore at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The whole program ends, every array as stated. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The arguments end as they began. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- The program ends without fault, its arguments unchanged and its semaphores at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.LoraIdeal.Hand

end
-- ==== Proof.LoraSpec.lean ====
/- Hand-written, untrusted. The activation side of the layer as plain functions over the extended reals, row by row: what both programs leave in their results. -/
module

public import Idealize.ShloMosaic.Lib.Pointwise

@[expose] public section

set_option maxRecDepth 16384

noncomputable section

namespace Cert.LoraSpec

open Idealize.ShloMosaic

/-- The largest magnitude of a row. -/
def amax {n : ℕ} (f : Fin n → EReal) : EReal :=
  Finset.univ.fold max (Ideal.ofBits .f32 0xFF800000#32) fun k => max (f k) (-f k)

/-- The exponent of a row's scale, from its largest magnitude. -/
def expo (a : EReal) : EReal :=
  Ideal.liftRound Int.floor (Ideal.div (Ideal.log (a * Ideal.ofBits .f32 0x3B124925#32)) (Ideal.log (Ideal.ofBits .f32 0x40000000#32))) + 1

/-- The power-of-two scale for a largest magnitude. -/
def up (a : EReal) : EReal := if a = 0 then 1 else Ideal.exp2 (expo a)

/-- Its reciprocal. -/
def down (a : EReal) : EReal := if a = 0 then 1 else Ideal.exp2 (0 - expo a)

/-- A row's scale and its codes. -/
def scale8 {n : ℕ} (f : Fin n → EReal) : EReal := up (amax f)
@[inherit_doc scale8]
def code8 {n : ℕ} (f : Fin n → EReal) (k : Fin n) : EReal :=
  min (Ideal.ofBits .f32 0x43E00000#32) (max (Ideal.ofBits .f32 0xC3E00000#32) (f k * down (amax f)))

/-- A row's scale over 127, and its whole-number codes as reals. -/
def scaleI {n : ℕ} (f : Fin n → EReal) : EReal :=
  if amax f = 0 then 1 else Ideal.div (amax f) (Ideal.ofBits .f32 0x42FE0000#32)
@[inherit_doc scaleI]
def codeI {n : ℕ} (f : Fin n → EReal) (k : Fin n) : EReal :=
  min (Ideal.ofBits .f32 0x42FE0000#32) (max (Ideal.ofBits .f32 0xC2FE0000#32)
    (Ideal.liftRound Ideal.roundHalfEven (Ideal.div (f k) (scaleI f))))

/-- The rank values of a row `x`: its codes against the codes `v`, rescaled. -/
def rank (x : Fin 3584 → EReal) (v : Fin 160 → Fin 3584 → EReal) (vs : Fin 160 → EReal) (j : Fin 160) : EReal :=
  (∑ k : Fin 3584, code8 x k * v j k) * scale8 x * vs j

/-- The signed four-bit value at row `k` of a tenant's core: the low half of a byte for an even row, the high half for an odd one. -/
def nib (p : Fin 80 → BitVec 8) (k : Fin 160) : ℝ :=
  (if k.val % 2 = 0 then (((p ⟨k.val / 2, by omega⟩).setWidth 4).toInt : ℝ)
    else ((((p ⟨k.val / 2, by omega⟩) >>> 4).setWidth 4).toInt : ℝ))

/-- What tenant `g` makes of the whole-number codes `zq` with scale `zs`. -/
def tenant (zq : Fin 160 → EReal) (zs : EReal) (p : Fin 41 → Fin 80 → Fin 160 → BitVec 8) (ss : Fin 41 → Fin 160 → EReal)
    (n : Fin 160) (g : Fin 41) : EReal :=
  (∑ k : Fin 160, zq k * ((nib (fun a => p g a n) k : ℝ) : EReal)) * zs * ss g n

/-- Where tenant `k`'s rows start: the sum of the sizes before it, in 32-bit words. -/
def start (gs : Fin 41 → BitVec 32) : ℕ → BitVec 32
  | 0 => 0#32
  | k + 1 => if h : k < 41 then start gs k + gs ⟨k, h⟩ else start gs k

/-- Row `row` lies in tenant `k`'s range. -/
def owns (gs : Fin 41 → BitVec 32) (row : BitVec 32) (k : ℕ) : Bool :=
  (start gs k).sle row && row.slt (start gs (k + 1))

/-- The value of the last of the first `k` tenants that holds the row, zero if none does. -/
def last (gs : Fin 41 → BitVec 32) (row : BitVec 32) (f : Fin 41 → EReal) : ℕ → EReal
  | 0 => 0
  | k + 1 => if h : k < 41 then (if owns gs row k then f ⟨k, h⟩ else last gs row f k) else last gs row f k

/-- The hidden values of row `row` from its rank values `z`. -/
def hid (z : Fin 160 → EReal) (p : Fin 41 → Fin 80 → Fin 160 → BitVec 8) (ss : Fin 41 → Fin 160 → EReal)
    (gs : Fin 41 → BitVec 32) (row : BitVec 32) (n : Fin 160) : EReal :=
  last gs row (tenant (codeI z) (scaleI z) p ss n) 41

end Cert.LoraSpec

end
-- ==== Proof.LoraNum.lean ====
/- Hand-written, untrusted. The numbers of the layer: its clipping bounds, four-bit values, whole-number codes, and a sum with one term. -/
module

public import proofs.«01_k».proof.Proof.LoraSpec
public import Idealize.ShloMosaic.Lib.Pointwise

@[expose] public section

set_option maxRecDepth 16384

noncomputable section

namespace Cert.LoraSpec

open Idealize.ShloMosaic

/-- The pattern of 448. -/
theorem b448 : Ideal.ofBits .f32 0x43E00000#32 = ((448 : ℝ) : EReal) := by
  simp [Ideal.ofBits, Ideal.ieee, -EReal.coe_mul]; norm_num [← EReal.coe_mul]
/-- The pattern of -448. -/
theorem bn448 : Ideal.ofBits .f32 0xC3E00000#32 = ((-448 : ℝ) : EReal) := by
  simp [Ideal.ofBits, Ideal.ieee, -EReal.coe_mul]; norm_num [← EReal.coe_mul]
/-- The pattern of 127. -/
theorem b127 : Ideal.ofBits .f32 0x42FE0000#32 = ((127 : ℝ) : EReal) := by
  simp [Ideal.ofBits, Ideal.ieee, -EReal.coe_mul]; norm_num [← EReal.coe_mul]
/-- The pattern of -127. -/
theorem bn127 : Ideal.ofBits .f32 0xC2FE0000#32 = ((-127 : ℝ) : EReal) := by
  simp [Ideal.ofBits, Ideal.ieee, -EReal.coe_mul]; norm_num [← EReal.coe_mul]
/-- The pattern of 2. -/
theorem b2 : Ideal.ofBits .f32 0x40000000#32 = ((2 : ℝ) : EReal) := by
  simp [Ideal.ofBits, Ideal.ieee, -EReal.coe_mul]; norm_num [← EReal.coe_mul]
/-- 448 in sixteen bits and in thirty-two. -/
theorem h448 : Ideal.ofBits .bf16 0x43E0#16 = Ideal.ofBits .f32 0x43E00000#32 := by
  rw [b448]; simp [Ideal.ofBits, Ideal.ieee, -EReal.coe_mul]; norm_num [← EReal.coe_mul]
/-- -448 in sixteen bits and in thirty-two. -/
theorem hn448 : Ideal.ofBits .bf16 0xC3E0#16 = Ideal.ofBits .f32 0xC3E00000#32 := by
  rw [bn448]; simp [Ideal.ofBits, Ideal.ieee, -EReal.coe_mul]; norm_num [← EReal.coe_mul]
/-- Minus infinity in sixteen bits and in thirty-two. -/
theorem hbot : Ideal.ofBits .bf16 0xFF80#16 = Ideal.ofBits .f32 0xFF800000#32 := by
  simp [Ideal.ofBits, Ideal.ieee]

/-- Two to a power, by either operation. -/
theorem pow_two (x : EReal) : Ideal.pow (Ideal.ofBits .f32 0x40000000#32) x = Ideal.exp2 x := by
  rw [b2]
  induction x using EReal.rec with
  | bot => rw [Ideal.pow_coe_bot, Ideal.exp2_bot]; norm_num
  | top => rw [Ideal.pow_coe_top, Ideal.exp2_top]; norm_num
  | coe r => rw [Ideal.pow_coe_coe, Ideal.exp2_coe]

/-- Shifting up by 28 and down by 28 leaves the low half of a byte, signed. -/
theorem nib_lo : ∀ b : BitVec 8, IntOp.shrsi ArithUnit.vector (IntOp.shli ArithUnit.vector (BitVec.setWidth 32 b) 28#32) 28#32
    = (b.setWidth 4).signExtend 32 := by decide +kernel
/-- Shifting up by 24 and down by 28 leaves the high half of a byte, signed. -/
theorem nib_hi : ∀ b : BitVec 8, IntOp.shrsi ArithUnit.vector (IntOp.shli ArithUnit.vector (BitVec.setWidth 32 b) 24#32) 28#32
    = ((b >>> 4).setWidth 4).signExtend 32 := by decide +kernel

/-- A rounded and clipped value is a whole number between -127 and 127. -/
theorem codeI_int {n : ℕ} (f : Fin n → EReal) (k : Fin n) :
    ∃ z : ℤ, -127 ≤ z ∧ z ≤ 127 ∧ codeI f k = ((z : ℝ) : EReal) := by
  unfold codeI
  rw [b127, bn127]
  generalize Ideal.div (f k) (scaleI f) = e
  induction e using EReal.rec with
  | bot =>
    refine ⟨-127, by norm_num, by norm_num, ?_⟩
    rw [Ideal.liftRound_bot, max_eq_left bot_le, min_eq_right (EReal.coe_le_coe_iff.mpr (by norm_num))]
    norm_num
  | top =>
    refine ⟨127, by norm_num, by norm_num, ?_⟩
    rw [Ideal.liftRound_top, max_eq_right le_top, min_eq_left le_top]
    norm_num
  | coe r =>
    refine ⟨min 127 (max (-127) (Ideal.roundHalfEven r)), by simp, by simp, ?_⟩
    have hm : Monotone (fun z : ℤ => ((z : ℝ) : EReal)) := fun a b h => EReal.coe_le_coe_iff.mpr (by exact_mod_cast h)
    rw [Ideal.liftRound_coe]
    refine Eq.trans ?_ (hm.map_min (a := 127) (b := max (-127) (Ideal.roundHalfEven r))).symm
    refine congrArg₂ min (by norm_num) ?_
    refine Eq.trans ?_ (hm.map_max (a := -127) (b := Ideal.roundHalfEven r)).symm
    exact congrArg₂ max (by norm_num) rfl

/-- A whole number in range converts to its word. -/
theorem fptosi_int (w : ℕ) (z : ℤ) (h0 : -((2 ^ (w - 1) : ℕ) : ℤ) ≤ z) (h1 : z ≤ ((2 ^ (w - 1) : ℕ) : ℤ) - 1) :
    Ideal.fptosi w ((z : ℝ) : EReal) = BitVec.ofInt w z := by
  rw [Ideal.fptosi, Ideal.toIntClamped_coe]
  congr 1
  rw [Int.floor_intCast, Int.ceil_intCast, ite_self]
  omega

/-- The whole-number codes by way of a 32-bit word. -/
theorem codeI_word {n : ℕ} (f : Fin n → EReal) (k : Fin n) :
    BitVec.setWidth 8 (Ideal.fptosi 32 (codeI f k)) = Ideal.fptosi 8 (codeI f k) := by
  obtain ⟨z, h0, h1, h⟩ := codeI_int f k
  rw [h, fptosi_int 32 z (by norm_num; omega) (by norm_num; omega), fptosi_int 8 z (by norm_num; omega) (by norm_num; omega)]
  apply BitVec.eq_of_toInt_eq
  simp [BitVec.toInt_setWidth]
  rw [max_eq_left (Int.emod_nonneg _ (by norm_num))]
  simp only [Int.bmod]
  omega

/-- And back to the same number. -/
theorem codeI_back {n : ℕ} (f : Fin n → EReal) (k : Fin n) :
    ((((BitVec.signExtend 32 (BitVec.setWidth 8 (Ideal.fptosi 32 (codeI f k)))).toInt : ℤ) : ℝ) : EReal) = codeI f k := by
  rw [codeI_word]
  obtain ⟨z, h0, h1, h⟩ := codeI_int f k
  rw [h, fptosi_int 8 z (by norm_num; omega) (by norm_num; omega), BitVec.toInt_signExtend_of_le (by norm_num), BitVec.toInt_ofInt]
  congr 2
  rw [Int.bmod_eq_of_le] <;> norm_num <;> omega

/-- A diagonal of a square: one term of the sum is not zero. -/
theorem diag (f : Fin 128 → EReal) (r : ℕ) (hr : r < 128) :
    ∑ x : Fin 128, Scalar.select (IntOp.cmpi CmpIPredicate.eq (BitVec.ofNat 32 ↑x) (BitVec.ofNat 32 r)) (f x) 0 = f ⟨r, hr⟩ := by
  rw [Finset.sum_eq_single (⟨r, hr⟩ : Fin 128)]
  · simp [Scalar.select, IntOp.cmpi]
  · intro b _ hb
    have : ¬ (BitVec.ofNat 32 b.val = BitVec.ofNat 32 r) := by
      intro h; apply hb; apply Fin.ext
      have := congrArg BitVec.toNat h
      simp only [BitVec.toNat_ofNat] at this
      have := b.isLt
      show b.val = r
      omega
    rw [Scalar.select, if_neg]
    simp only [IntOp.cmpi]
    rw [beq_false_of_ne this]
    decide
  · simp

end Cert.LoraSpec

end
-- ==== Proof.LoraPay.lean ====
/- Hand-written, untrusted. The kernel's payloads, read at an index, as the plain functions of a row. -/
module

public import proofs.«01_k».proof.Proof.Gen.LoraIdeal.Skeleton
public import proofs.«01_k».proof.Proof.LoraNum
public import Idealize.ShloMosaic.Lib.Pointwise

@[expose] public section

set_option maxRecDepth 16384

noncomputable section

namespace Cert.LoraIdeal.Hand

open Cert.LoraIdeal Cert.LoraIdeal.Gen Cert.LoraSpec Idealize.ShloMosaic Idealize.ShloMosaic.TcCoe Idealize.SL.Sem

/-- The scale of a row. -/
theorem pay6 (v0 : Vec Ideal S256x3584 .bf16) (r : Fin 256) :
    k0_pay6 (F := Ideal) v0 (ix2 r 0) = scale8 fun k => v0 (ix2 r k) := by
  pointwise [k0_pay6, k0_pay5, k0_pay4, scale8, up, amax, expo]
  rfl
/-- The codes of a row. -/
theorem pay7 (v0 : Vec Ideal S256x3584 .bf16) (r : Fin 256) (k : Fin 3584) :
    k0_pay7 (F := Ideal) v0 (ix2 r k) = code8 (fun k => v0 (ix2 r k)) k := by
  pointwise [k0_pay7, k0_pay5, k0_pay4, code8, down, amax, expo]
  simp only [h448, hn448, hbot]
  rfl

/-- The rank values of a row. -/
theorem pay9 (v0 : Vec Ideal S256x3584 .bf16) (v35 : Vec Ideal S160x3584 .fp8e4m3) (v39 : Vec Ideal S1x160 .f32) (r : Fin 256) (j : Fin 160) :
    k0_pay9 (F := Ideal) (k0_pay8 v0 v35) v39 (ix2 r j) = rank (fun k => v0 (ix2 r k)) (fun j k => v35 (ix2 j k)) (fun j => v39 (ix2 0 j)) j := by
  pointwise [k0_pay9, k0_pay8, rank]
  simp only [pay7, pay6]
/-- The scale of a row's rank values. -/
theorem pay10 (v38 : FVec Ideal S256x160 .f32) (v39 : Vec Ideal S1x160 .f32) (r : Fin 256) :
    k0_pay10 (F := Ideal) v38 v39 (ix2 r 0) = scaleI fun j => k0_pay9 (F := Ideal) v38 v39 (ix2 r j) := by
  pointwise [k0_pay10, scaleI, amax]
  rfl
/-- The whole-number codes of a row's rank values. -/
theorem pay11 (v38 : FVec Ideal S256x160 .f32) (v39 : Vec Ideal S1x160 .f32) (r : Fin 256) (j : Fin 160) :
    k0_pay11 (F := Ideal) v38 v39 (ix2 r j) = codeI (fun j => k0_pay9 (F := Ideal) v38 v39 (ix2 r j)) j := by
  pointwise [k0_pay11, codeI]
  simp only [pay10]
/-- The same codes as eight-bit words. -/
theorem pay12 (v38 : FVec Ideal S256x160 .f32) (v39 : Vec Ideal S1x160 .f32) (r : Fin 256) (j : Fin 160) :
    k0_pay12 (F := Ideal) v38 v39 (ix2 r j) = Ideal.fptosi 8 (codeI (fun j => k0_pay9 (F := Ideal) v38 v39 (ix2 r j)) j) := by
  pointwise [k0_pay12]
  rw [pay11]; rfl
/-- The largest magnitude of a row's hidden values. -/
theorem pay15 (v71 : FVec Ideal S256x160 .f32)  (r : Fin 256) :
    k0_pay15 (F := Ideal) v71 (ix2 r 0) = amax fun j => v71 (ix2 r j) := by
  pointwise [k0_pay15, amax]
  rfl
/-- The codes of a row's hidden values. -/
theorem pay18 (v71 : FVec Ideal S256x160 .f32)  (r : Fin 256) (j : Fin 160) :
    k0_pay18 (F := Ideal) v71 (k0_pay15 v71) (Scalar.ofBits .f32 0x3B124925#32) (ix2 r j) = code8 (fun j => v71 (ix2 r j)) j := by
  pointwise [k0_pay18, k0_pay16, k0_pay15, code8, down, expo, amax]
  rfl
/-- The scale of a row's hidden values. -/
theorem pay17 (v71 : FVec Ideal S256x160 .f32)  (r : Fin 256) :
    k0_pay17 (F := Ideal) (k0_pay15 v71) (Scalar.ofBits .f32 0x3B124925#32) (ix2 r 0) = scale8 (fun j => v71 (ix2 r j)) := by
  pointwise [k0_pay17, k0_pay16, k0_pay15, scale8, up, expo, amax]
  rfl
end Cert.LoraIdeal.Hand

end
-- ==== Proof.LoraPayB.lean ====
/- Hand-written, untrusted. The kernel's payloads, read at an index, as the plain functions of a row. -/
module

public import proofs.«01_k».proof.Proof.LoraPay
public import Idealize.ShloMosaic.Lib.Pointwise

@[expose] public section

set_option maxRecDepth 16384

noncomputable section

namespace Cert.LoraIdeal.Hand

open Cert.LoraIdeal Cert.LoraIdeal.Gen Cert.LoraSpec Idealize.ShloMosaic Idealize.ShloMosaic.TcCoe Idealize.SL.Sem

/-- The diagonal picked in two halves of 128 is the element itself. -/
theorem row_diag (f : Fin 256 → EReal) (r : Fin 256) (h₁ : ∀ x : Fin 128, x.val < 256) (h₂ : ∀ x : Fin 128, 128 + x.val < 256) :
    (if h : r.val < 128 then ∑ x : Fin 128, Scalar.select (IntOp.cmpi CmpIPredicate.eq (BitVec.ofNat 32 ↑x) (BitVec.ofNat 32 ↑r)) (f ⟨↑x, h₁ x⟩) 0
      else ∑ x : Fin 128, Scalar.select (IntOp.cmpi CmpIPredicate.eq (BitVec.ofNat 32 ↑x) (BitVec.ofNat 32 (↑r - 128))) (f ⟨128 + ↑x, h₂ x⟩) 0) = f r := by
  split
  · rename_i h; exact diag (fun x => f ⟨↑x, h₁ x⟩) r h
  · rename_i h
    rw [diag (fun x => f ⟨128 + ↑x, h₂ x⟩) (r - 128) (by omega)]
    congr 1; apply Fin.ext; show 128 + (r.val - 128) = r.val; omega

/-- The scales of the rows, laid along a block. -/
theorem pay22 (v18 : FVec Ideal S256x1 .f32) (r : Fin 256) :
    k0_pay22 (F := Ideal) (k0_pay20 v18) (k0_pay21 v18) (ix3 0 0 r) = v18 (ix2 r 0) := by
  pointwise [k0_pay22, k0_pay20, k0_pay21, k0_pay19]
  exact row_diag (fun x => v18 (ix2 x 0)) r _ _

/-- The scales of the rank values, laid along a block. -/
theorem pay23 (v50 : FVec Ideal S256x1 .f32) (r : Fin 256) :
    k0_pay23 (F := Ideal) v50 (ix3 0 0 r) = v50 (ix2 r 0) := by
  pointwise [k0_pay23]
  exact row_diag (fun x => v50 (ix2 x 0)) r _ _

/-- The scales of the hidden values, laid along a block. -/
theorem pay1 (v88 : FVec Ideal S256x1 .f32) (r : Fin 256) :
    k0_pay1 (F := Ideal) (k0_pay25 v88) (k0_pay26 v88) (ix3 0 0 r) = v88 (ix2 r 0) := by
  pointwise [k0_pay1, k0_pay24, k0_pay25, k0_pay26]
  exact row_diag (fun x => v88 (ix2 x 0)) r _ _

/-- The scale of a row on every lane. -/
theorem pay2 (v18 : FVec Ideal S256x1 .f32) (r : Fin 256) (l : Fin 128) :
    k0_pay2 (F := Ideal) v18 (ix2 r l) = v18 (ix2 r 0) := by
  pointwise [k0_pay2]

/-- The scale of a row's hidden values on every lane. -/
theorem pay3 (v88 : FVec Ideal S256x1 .f32) (r : Fin 256) (l : Fin 128) :
    k0_pay3 (F := Ideal) v88 (ix2 r l) = v88 (ix2 r 0) := by
  pointwise [k0_pay3]

/-- The value the scratch is cleared with is zero. -/
theorem pay13 (r : Fin 256) (n : Fin 160) : k0_pay13 (F := Ideal) (ix2 r n) = 0 := by
  pointwise [k0_pay13]

/-- The conjunction of two bits is one where both conditions hold. -/
theorem and_bool (p q : Bool) : IntOp.andi (BitVec.ofBool p) (BitVec.ofBool q) = 1#1 ↔ (p && q) = true := by
  cases p <;> cases q <;> decide

/-- One pass of the loop: a row of the tenant gets its codes' product with the core, scaled; any other row keeps what it had. -/
theorem pay14 (a : BitVec 32) (v38 : FVec Ideal S256x160 .f32) (v39 : Vec Ideal S1x160 .f32) (s w : BitVec 32)
    (p : Vec Ideal S1x80x160 .i8) (ss : Vec Ideal S1x160 .f32) (old : Vec Ideal S256x160 .f32) (r : Fin 256) (n : Fin 160) :
    k0_pay14 (F := Ideal) a v38 v39 s w p ss old (ix2 r n)
      = if (s.sle (a * 256#32 + BitVec.ofNat 32 r) && (a * 256#32 + BitVec.ofNat 32 r).slt (s + w)) then
          (∑ k : Fin 160, codeI (fun j => k0_pay9 (F := Ideal) v38 v39 (ix2 r j)) k * ((nib (fun b => p (ix3 0 b n)) k : ℝ) : EReal))
            * scaleI (fun j => k0_pay9 (F := Ideal) v38 v39 (ix2 r j)) * ss (ix2 0 n)
        else old (ix2 r n) := by
  pointwise [k0_pay14]
  rw [pay10]
  simp only [pay11, nib_lo, nib_hi]
  rw [Scalar.select]
  refine if_congr ?_ ?_ rfl
  · exact and_bool _ _
  · congr 2
    refine Finset.sum_congr rfl fun x _ => ?_
    rw [nib]
    congr 1
    split <;> (refine (congrArg (fun z : ℤ => ((z : ℝ) : EReal)) (BitVec.toInt_signExtend_of_le (by norm_num))))
end Cert.LoraIdeal.Hand
-- ==== Proof.LoraIdealHid.lean ====
/- Hand-written, untrusted. What the loop over the tenants leaves in the scratch: each row's value from the last tenant that holds it. -/
module

public import proofs.«01_k».proof.Proof.LoraIdealLoop
public import proofs.«01_k».proof.Proof.LoraPayB
public import Idealize.ShloMosaic.Lib.VecWindow
public import Idealize.ShloMosaic.Lib.WholeRead

@[expose] public section

set_option maxRecDepth 16384

noncomputable section

namespace Cert.LoraIdeal.Hand

open Cert.LoraIdeal Cert.LoraIdeal.Gen Cert.LoraSpec Idealize.ShloMosaic Idealize.ShloMosaic.TcCoe Idealize.SL.Sem

/-- The loop over the tenants makes 41 passes. -/
theorem trips_eq : k0_t1_loop.trips = 41 := by decide +kernel

/-- A bit is one where its condition holds. -/
theorem ofBool_one (b : Bool) : BitVec.ofBool b = 1#1 ↔ b = true := by cases b <;> decide

/-- A small number is itself as a signed word. -/
theorem toInt_small (n : ℕ) (h : n < 2 ^ 31) : (BitVec.ofNat 32 n).toInt = n := by
  have e : (BitVec.ofNat 32 n).toNat = n := by rw [BitVec.toNat_ofNat, Nat.mod_eq_of_lt (by omega)]
  rw [BitVec.toInt_eq_toNat_of_lt (by rw [e]; omega), e]

/-- A tenant with no row in the block holds none of its rows. -/
theorem no_rows (i r : ℕ) (hi : i < 6) (hr : r < 256) (a b : BitVec 32) (h : ¬ hasRows (BitVec.ofNat 32 i) a b = 1#1) :
    (a.sle (BitVec.ofNat 32 i * 256#32 + BitVec.ofNat 32 r) && (BitVec.ofNat 32 i * 256#32 + BitVec.ofNat 32 r).slt b) = false := by
  by_contra hc
  rw [Bool.not_eq_false, Bool.and_eq_true] at hc
  obtain ⟨h1, h2⟩ := hc
  apply h
  have e : BitVec.ofNat 32 i * 256#32 + BitVec.ofNat 32 r = BitVec.ofNat 32 (i * 256 + r) := by
    apply BitVec.eq_of_toNat_eq; simp
  rw [e] at h1 h2
  have t : (BitVec.ofNat 32 (i * 256 + r)).toInt = (i * 256 + r : ℕ) := by
    rw [toInt_small _ (by omega)]
  rw [BitVec.sle_iff_toInt_le, t] at h1
  rw [BitVec.slt_iff_toInt_lt, t] at h2
  have u1 : ((BitVec.ofNat 32 i + 1#32) * 256#32).toInt = ((i + 1) * 256 : ℕ) := by
    rw [show (BitVec.ofNat 32 i + 1#32) * 256#32 = BitVec.ofNat 32 ((i + 1) * 256) from by apply BitVec.eq_of_toNat_eq; simp]
    rw [toInt_small _ (by omega)]
  have u0 : (BitVec.ofNat 32 i * 256#32).toInt = (i * 256 : ℕ) := by
    rw [show BitVec.ofNat 32 i * 256#32 = BitVec.ofNat 32 (i * 256) from by apply BitVec.eq_of_toNat_eq; simp]
    rw [toInt_small _ (by omega)]
  have c1 : a.slt b = true := BitVec.slt_iff_toInt_lt.mpr (by omega)
  have c2 : a.slt ((BitVec.ofNat 32 i + 1#32) * 256#32) = true := BitVec.slt_iff_toInt_lt.mpr (by rw [u1]; omega)
  have c3 : (BitVec.ofNat 32 i * 256#32).slt b = true := BitVec.slt_iff_toInt_lt.mpr (by rw [u0]; omega)
  show IntOp.cmpi .ne (BitVec.setWidth 32 (IntOp.andi (IntOp.andi (BitVec.ofBool (a.slt b)) (BitVec.ofBool (a.slt ((BitVec.ofNat 32 i + 1#32) * 256#32)))) (BitVec.ofBool ((BitVec.ofNat 32 i * 256#32).slt b)))) 0#32 = 1#1
  rw [c1, c2, c3]
  decide

/-- The row counter carried by the loop is the sum of the sizes before the tenant. -/
theorem startOf_eq (c : Dev nD) (arg1 : Memref sig .tc .smem S41 .i32) (X1) (gs : Fin 41 → BitVec 32)
    (hw : ∀ k : Fin k0_t1_loop.trips, word (F := Ideal) c arg1 X1 k = gs ⟨k, trips_eq ▸ k.isLt⟩) (k : ℕ) :
    startOf (F := Ideal) c arg1 X1 0#32 k = start gs k := by
  induction k with
  | zero => rfl
  | succ k ih =>
    rw [startOf, start]
    by_cases h : k < 41
    · rw [dif_pos (trips_eq ▸ h), dif_pos h, ih, hw]; rfl
    · rw [dif_neg (trips_eq ▸ h), dif_neg h, ih]

/-- After some tenants the scratch holds, in each row, the value of the last of them that holds the row. -/
theorem hAt_read (c : Dev nD) (arg1 : Memref sig .tc .smem S41 .i32) (arg5 : Memref sig .tc .vmem S41x80x160 .i8) (h5 : arg5.IsWhole)
    (arg6 : Memref sig .tc .vmem S41x160 .f32) (h6 : arg6.IsWhole) (arg15 : Memref sig .tc .vmem S256x160 .f32) (i : ℕ) (hi : i < 6)
    (v38 : FVec Ideal S256x160 .f32) (v39 : Vec Ideal S1x160 .f32) (X1) (Y5 : Vec Ideal S41x80x160 .i8) (Y6 : Vec Ideal S41x160 .f32) (G)
    (gs : Fin 41 → BitVec 32) (hw : ∀ k : Fin k0_t1_loop.trips, word (F := Ideal) c arg1 X1 k = gs ⟨k, trips_eq ▸ k.isLt⟩)
    (r : Fin 256) (n : Fin 160) (hG : View.read (Elt Ideal) arg15.view G (ix2 r n) = 0) (k : ℕ) :
    View.read (Elt Ideal) arg15.view (hAt (F := Ideal) c arg1 arg5 arg6 arg15 (BitVec.ofNat 32 i) v38 v39 X1 (h5.unread Y5) (h6.unread Y6) G 0#32 k) (ix2 r n)
      = last gs (BitVec.ofNat 32 i * 256#32 + BitVec.ofNat 32 r)
          (tenant (codeI fun j => k0_pay9 (F := Ideal) v38 v39 (ix2 r j)) (scaleI fun j => k0_pay9 (F := Ideal) v38 v39 (ix2 r j))
            (fun g b n => Y5 (ix3 g b n)) (fun g n => Y6 (ix2 g n)) n) k := by
  induction k with
  | zero => exact hG
  | succ k ih =>
    rw [hAt, last]
    by_cases h : k < 41
    · rw [dif_pos (trips_eq ▸ h), dif_pos h, startOf_eq c arg1 X1 gs hw, hw]
      have hs : Scalar.addi (start gs k) (gs ⟨k, h⟩) = start gs (k + 1) := by rw [start, dif_pos h]; rfl
      rw [hs]
      split
      · rename_i hc
        refine (congrFun (View.read_writes_full (Val := Elt Ideal) arg15.view _ (off := ![0, 0]) _ _ []) (ix2 r n)).trans ?_
        refine (pay14 _ v38 v39 _ _ _ _ _ r n).trans ?_
        rw [View.readAt_full, ih]
        have hs' : start gs k + gs ⟨k, h⟩ = start gs (k + 1) := hs
        refine if_congr ?_ ?_ rfl
        · show (_ && _) = true ↔ (_ && _) = true
          rw [hs']
        · rw [tenant]
          have e5 : ∀ b : Fin 80, View.readAt (Elt Ideal) arg5.view (Rect.unit (s := S41x80x160) (k0_off2 ⟨k, trips_eq ▸ h⟩) S1x80x160.size (k0_off2_inb ⟨k, trips_eq ▸ h⟩)).toLoadRect (h5.unread Y5) (ix3 0 b n) = Y5 (ix3 ⟨k, h⟩ b n) := fun b => by
            rw [View.readAt_eq_ld, Memref.IsWhole.read_unread]
            refine congrArg Y5 ?_
            refine funext (Fin.forall_fin_succ.mpr ⟨Fin.ext ?_, Fin.forall_fin_two.mpr ⟨Fin.ext ?_, Fin.ext ?_⟩⟩)
            · show k0_off2 ⟨k, trips_eq ▸ h⟩ 0 + 1 * 0 = k
              rw [k0_off2_eq]; rfl
            · show k0_off2 ⟨k, trips_eq ▸ h⟩ 1 + 1 * b.val = b.val
              rw [k0_off2_eq]; show 0 + 1 * b.val = b.val; omega
            · show k0_off2 ⟨k, trips_eq ▸ h⟩ 2 + 1 * n.val = n.val
              rw [k0_off2_eq]; show 0 + 1 * n.val = n.val; omega
          have e6 : View.readAt (Elt Ideal) arg6.view (Rect.unit (s := S41x160) (k0_off3 ⟨k, trips_eq ▸ h⟩) S1x160.size (k0_off3_inb ⟨k, trips_eq ▸ h⟩)).toLoadRect (h6.unread Y6) (ix2 0 n) = Y6 (ix2 ⟨k, h⟩ n) := by
            rw [View.readAt_eq_ld, Memref.IsWhole.read_unread]
            refine congrArg Y6 ?_
            refine funext (Fin.forall_fin_two.mpr ⟨Fin.ext ?_, Fin.ext ?_⟩)
            · show k0_off3 ⟨k, trips_eq ▸ h⟩ 0 + 1 * 0 = k
              rw [k0_off3_eq]; rfl
            · show k0_off3 ⟨k, trips_eq ▸ h⟩ 1 + 1 * n.val = n.val
              rw [k0_off3_eq]; show 0 + 1 * n.val = n.val; omega
          rw [e6]
          simp only [e5]
      · rename_i hc
        rw [ih, if_neg]
        unfold LoraSpec.owns
        rw [no_rows i r hi r.isLt _ _ hc]
        decide
    · rw [dif_neg (trips_eq ▸ h), dif_neg h, ih]

end Cert.LoraIdeal.Hand

end
-- ==== Proof.LoraIdealValue.lean ====
/- Hand-written, untrusted. What the result arrays of the activation call hold after its run, over the extended reals. -/
module

public import proofs.«01_k».proof.Proof.LoraIdealFrame
public import proofs.«01_k».proof.Proof.LoraPayB
public import proofs.«01_k».proof.Proof.LoraIdealHid
public import Idealize.ShloMosaic.Lib.Claim
public import Idealize.ShloMosaic.Lib.Pipeline.ValueKit

@[expose] public section

set_option maxRecDepth 16384

noncomputable section

namespace Cert.LoraIdeal.Hand

open Cert.LoraIdeal Cert.LoraIdeal.Gen Cert.LoraSpec Idealize.ShloMosaic Idealize.ShloMosaic.TcCoe Idealize.SL.Sem
open Idealize.ShloMosaic.Pipeline (Dat)

variable (m : (ℓ : Loc nD τ sig) → Buf (Elt Ideal) ℓ)

/-- Each window's block index at every grid point: the row windows follow the grid, the others stay. -/
theorem idx : ∀ t : Fin grid0.N, cc0_transform_0 (grid0.coords t) = ![t.val, 0] ∧ cc0_transform_1 (grid0.coords t) = ![0, 0] ∧ cc0_transform_2 (grid0.coords t) = ![0, 0]
    ∧ cc0_transform_3 (grid0.coords t) = ![0, 0, 0] ∧ cc0_transform_4 (grid0.coords t) = ![0, 0] ∧ cc0_transform_5 (grid0.coords t) = ![t.val, 0]
    ∧ cc0_transform_6 (grid0.coords t) = ![t.val, 0, 0] ∧ cc0_transform_7 (grid0.coords t) = ![t.val, 0] ∧ cc0_transform_8 (grid0.coords t) = ![t.val, 0, 0] ∧ cc0_transform_9 (grid0.coords t) = ![t.val, 0]
    ∧ cc0_transform_10 (grid0.coords t) = ![t.val, 0, 0] ∧ cc0_transform_11 (grid0.coords t) = ![t.val, 0] ∧ cc0_transform_12 (grid0.coords t) = ![t.val, 0] :=
  (by decide +kernel : ∀ t : Fin grid0.N, _)

/-- Row `r` of block `t`. -/
abbrev row (t : Fin grid0.N) (r : Fin 256) : Fin 1536 := ⟨t.val * 256 + r.val, by have h : t.val < 6 := t.isLt; omega⟩
abbrev pt (t : Fin grid0.N) : Fin 6 := ⟨t.val, t.isLt⟩

/-- Where window 0's block lies. -/
theorem ix_0 (hO : Ok m) (t : Fin grid0.N) : (pcfg0.win (adm m hO) 0).index t = ![t.val, 0] := ((idx t).1 : cc0_transform_0 (grid0.coords t) = _)
/-- Where window 1's block lies. -/
theorem ix_1 (hO : Ok m) (t : Fin grid0.N) : (pcfg0.win (adm m hO) 1).index t = ![0, 0] := ((idx t).2.1 : cc0_transform_1 (grid0.coords t) = _)
/-- Where window 2's block lies. -/
theorem ix_2 (hO : Ok m) (t : Fin grid0.N) : (pcfg0.win (adm m hO) 2).index t = ![0, 0] := ((idx t).2.2.1 : cc0_transform_2 (grid0.coords t) = _)
/-- Where window 3's block lies. -/
theorem ix_3 (hO : Ok m) (t : Fin grid0.N) : (pcfg0.win (adm m hO) 3).index t = ![0, 0, 0] := ((idx t).2.2.2.1 : cc0_transform_3 (grid0.coords t) = _)
/-- Where window 4's block lies. -/
theorem ix_4 (hO : Ok m) (t : Fin grid0.N) : (pcfg0.win (adm m hO) 4).index t = ![0, 0] := ((idx t).2.2.2.2.1 : cc0_transform_4 (grid0.coords t) = _)
/-- Where window 5's block lies. -/
theorem ix_5 (hO : Ok m) (t : Fin grid0.N) : (pcfg0.win (adm m hO) 5).index t = ![t.val, 0] := ((idx t).2.2.2.2.2.1 : cc0_transform_5 (grid0.coords t) = _)
/-- Where window 6's block lies. -/
theorem ix_6 (hO : Ok m) (t : Fin grid0.N) : (pcfg0.win (adm m hO) 6).index t = ![t.val, 0, 0] := ((idx t).2.2.2.2.2.2.1 : cc0_transform_6 (grid0.coords t) = _)
/-- Where window 7's block lies. -/
theorem ix_7 (hO : Ok m) (t : Fin grid0.N) : (pcfg0.win (adm m hO) 7).index t = ![t.val, 0] := ((idx t).2.2.2.2.2.2.2.1 : cc0_transform_7 (grid0.coords t) = _)
/-- Where window 8's block lies. -/
theorem ix_8 (hO : Ok m) (t : Fin grid0.N) : (pcfg0.win (adm m hO) 8).index t = ![t.val, 0, 0] := ((idx t).2.2.2.2.2.2.2.2.1 : cc0_transform_8 (grid0.coords t) = _)
/-- Where window 9's block lies. -/
theorem ix_9 (hO : Ok m) (t : Fin grid0.N) : (pcfg0.win (adm m hO) 9).index t = ![t.val, 0] := ((idx t).2.2.2.2.2.2.2.2.2.1 : cc0_transform_9 (grid0.coords t) = _)
/-- Where window 10's block lies. -/
theorem ix_10 (hO : Ok m) (t : Fin grid0.N) : (pcfg0.win (adm m hO) 10).index t = ![t.val, 0, 0] := ((idx t).2.2.2.2.2.2.2.2.2.2.1 : cc0_transform_10 (grid0.coords t) = _)
/-- Where window 11's block lies. -/
theorem ix_11 (hO : Ok m) (t : Fin grid0.N) : (pcfg0.win (adm m hO) 11).index t = ![t.val, 0] := ((idx t).2.2.2.2.2.2.2.2.2.2.2.1 : cc0_transform_11 (grid0.coords t) = _)
/-- Where window 12's block lies. -/
theorem ix_12 (hO : Ok m) (t : Fin grid0.N) : (pcfg0.win (adm m hO) 12).index t = ![t.val, 0] := ((idx t).2.2.2.2.2.2.2.2.2.2.2.2 : cc0_transform_12 (grid0.coords t) = _)

/-- Every element of window 5's array lies in some block. -/
theorem cov5 (hO : Ok m) : ((cfgM m hO).win 5).Covers := by
  refine ⟨(by decide : ∀ a : Fin 2, 0 < S256x3584.size a), fun β => ?_⟩
  have h0 : (β (0 : Fin 2)).val < 6 := (lt_of_lt_of_eq (β (0 : Fin 2)).isLt (show (S1536x3584.size 0 + S256x3584.size 0 - 1) / S256x3584.size 0 = 6 from rfl))
  have h1 : (β (1 : Fin 2)).val < 1 := (lt_of_lt_of_eq (β (1 : Fin 2)).isLt (show (S1536x3584.size 1 + S256x3584.size 1 - 1) / S256x3584.size 1 = 1 from rfl))
  refine ⟨⟨_, h0⟩, flush0_5 (adm m hO) _, fun a => ⟨?_, Or.inl rfl⟩⟩
  refine (congrFun (ix_5 m hO ⟨_, h0⟩) a).trans ?_
  revert a
  refine Fin.forall_fin_two.mpr ⟨rfl, ?_⟩
  show 0 = (β (1 : Fin 2)).val
  omega
/-- The array element behind an element of window 5's block. -/
theorem emb5 (hO : Ok m) (t : Fin grid0.N) (r : Fin 256) (k : Fin 3584) :
    (((cfgM m hO).win 5).blk t).view.emb (ix2 r k) = ix2 (row t r) k := by
  refine funext (Fin.forall_fin_two.mpr ⟨Fin.ext ?_, Fin.ext ?_⟩)
  · exact (congrArg (fun z => z * 256 + 1 * r.val) (congrFun (ix_5 m hO t) (0 : Fin 2))).trans (by show t.val * 256 + 1 * r.val = t.val * 256 + r.val; omega)
  · exact (congrArg (fun z => z * 3584 + 1 * k.val) (congrFun (ix_5 m hO t) (1 : Fin 2))).trans (by show 0 * 3584 + 1 * k.val = k.val; omega)
/-- Every element of window 7's array lies in some block. -/
theorem cov7 (hO : Ok m) : ((cfgM m hO).win 7).Covers := by
  refine ⟨(by decide : ∀ a : Fin 2, 0 < S256x160.size a), fun β => ?_⟩
  have h0 : (β (0 : Fin 2)).val < 6 := (lt_of_lt_of_eq (β (0 : Fin 2)).isLt (show (S1536x160.size 0 + S256x160.size 0 - 1) / S256x160.size 0 = 6 from rfl))
  have h1 : (β (1 : Fin 2)).val < 1 := (lt_of_lt_of_eq (β (1 : Fin 2)).isLt (show (S1536x160.size 1 + S256x160.size 1 - 1) / S256x160.size 1 = 1 from rfl))
  refine ⟨⟨_, h0⟩, flush0_7 (adm m hO) _, fun a => ⟨?_, Or.inl rfl⟩⟩
  refine (congrFun (ix_7 m hO ⟨_, h0⟩) a).trans ?_
  revert a
  refine Fin.forall_fin_two.mpr ⟨rfl, ?_⟩
  show 0 = (β (1 : Fin 2)).val
  omega
/-- The array element behind an element of window 7's block. -/
theorem emb7 (hO : Ok m) (t : Fin grid0.N) (r : Fin 256) (k : Fin 160) :
    (((cfgM m hO).win 7).blk t).view.emb (ix2 r k) = ix2 (row t r) k := by
  refine funext (Fin.forall_fin_two.mpr ⟨Fin.ext ?_, Fin.ext ?_⟩)
  · exact (congrArg (fun z => z * 256 + 1 * r.val) (congrFun (ix_7 m hO t) (0 : Fin 2))).trans (by show t.val * 256 + 1 * r.val = t.val * 256 + r.val; omega)
  · exact (congrArg (fun z => z * 160 + 1 * k.val) (congrFun (ix_7 m hO t) (1 : Fin 2))).trans (by show 0 * 160 + 1 * k.val = k.val; omega)
/-- Every element of window 9's array lies in some block. -/
theorem cov9 (hO : Ok m) : ((cfgM m hO).win 9).Covers := by
  refine ⟨(by decide : ∀ a : Fin 2, 0 < S256x160.size a), fun β => ?_⟩
  have h0 : (β (0 : Fin 2)).val < 6 := (lt_of_lt_of_eq (β (0 : Fin 2)).isLt (show (S1536x160.size 0 + S256x160.size 0 - 1) / S256x160.size 0 = 6 from rfl))
  have h1 : (β (1 : Fin 2)).val < 1 := (lt_of_lt_of_eq (β (1 : Fin 2)).isLt (show (S1536x160.size 1 + S256x160.size 1 - 1) / S256x160.size 1 = 1 from rfl))
  refine ⟨⟨_, h0⟩, flush0_9 (adm m hO) _, fun a => ⟨?_, Or.inl rfl⟩⟩
  refine (congrFun (ix_9 m hO ⟨_, h0⟩) a).trans ?_
  revert a
  refine Fin.forall_fin_two.mpr ⟨rfl, ?_⟩
  show 0 = (β (1 : Fin 2)).val
  omega
/-- The array element behind an element of window 9's block. -/
theorem emb9 (hO : Ok m) (t : Fin grid0.N) (r : Fin 256) (k : Fin 160) :
    (((cfgM m hO).win 9).blk t).view.emb (ix2 r k) = ix2 (row t r) k := by
  refine funext (Fin.forall_fin_two.mpr ⟨Fin.ext ?_, Fin.ext ?_⟩)
  · exact (congrArg (fun z => z * 256 + 1 * r.val) (congrFun (ix_9 m hO t) (0 : Fin 2))).trans (by show t.val * 256 + 1 * r.val = t.val * 256 + r.val; omega)
  · exact (congrArg (fun z => z * 160 + 1 * k.val) (congrFun (ix_9 m hO t) (1 : Fin 2))).trans (by show 0 * 160 + 1 * k.val = k.val; omega)
/-- Every element of window 11's array lies in some block. -/
theorem cov11 (hO : Ok m) : ((cfgM m hO).win 11).Covers := by
  refine ⟨(by decide : ∀ a : Fin 2, 0 < S256x128.size a), fun β => ?_⟩
  have h0 : (β (0 : Fin 2)).val < 6 := (lt_of_lt_of_eq (β (0 : Fin 2)).isLt (show (S1536x128.size 0 + S256x128.size 0 - 1) / S256x128.size 0 = 6 from rfl))
  have h1 : (β (1 : Fin 2)).val < 1 := (lt_of_lt_of_eq (β (1 : Fin 2)).isLt (show (S1536x128.size 1 + S256x128.size 1 - 1) / S256x128.size 1 = 1 from rfl))
  refine ⟨⟨_, h0⟩, flush0_11 (adm m hO) _, fun a => ⟨?_, Or.inl rfl⟩⟩
  refine (congrFun (ix_11 m hO ⟨_, h0⟩) a).trans ?_
  revert a
  refine Fin.forall_fin_two.mpr ⟨rfl, ?_⟩
  show 0 = (β (1 : Fin 2)).val
  omega
/-- The array element behind an element of window 11's block. -/
theorem emb11 (hO : Ok m) (t : Fin grid0.N) (r : Fin 256) (k : Fin 128) :
    (((cfgM m hO).win 11).blk t).view.emb (ix2 r k) = ix2 (row t r) k := by
  refine funext (Fin.forall_fin_two.mpr ⟨Fin.ext ?_, Fin.ext ?_⟩)
  · exact (congrArg (fun z => z * 256 + 1 * r.val) (congrFun (ix_11 m hO t) (0 : Fin 2))).trans (by show t.val * 256 + 1 * r.val = t.val * 256 + r.val; omega)
  · exact (congrArg (fun z => z * 128 + 1 * k.val) (congrFun (ix_11 m hO t) (1 : Fin 2))).trans (by show 0 * 128 + 1 * k.val = k.val; omega)
/-- Every element of window 12's array lies in some block. -/
theorem cov12 (hO : Ok m) : ((cfgM m hO).win 12).Covers := by
  refine ⟨(by decide : ∀ a : Fin 2, 0 < S256x128.size a), fun β => ?_⟩
  have h0 : (β (0 : Fin 2)).val < 6 := (lt_of_lt_of_eq (β (0 : Fin 2)).isLt (show (S1536x128.size 0 + S256x128.size 0 - 1) / S256x128.size 0 = 6 from rfl))
  have h1 : (β (1 : Fin 2)).val < 1 := (lt_of_lt_of_eq (β (1 : Fin 2)).isLt (show (S1536x128.size 1 + S256x128.size 1 - 1) / S256x128.size 1 = 1 from rfl))
  refine ⟨⟨_, h0⟩, flush0_12 (adm m hO) _, fun a => ⟨?_, Or.inl rfl⟩⟩
  refine (congrFun (ix_12 m hO ⟨_, h0⟩) a).trans ?_
  revert a
  refine Fin.forall_fin_two.mpr ⟨rfl, ?_⟩
  show 0 = (β (1 : Fin 2)).val
  omega
/-- The array element behind an element of window 12's block. -/
theorem emb12 (hO : Ok m) (t : Fin grid0.N) (r : Fin 256) (k : Fin 128) :
    (((cfgM m hO).win 12).blk t).view.emb (ix2 r k) = ix2 (row t r) k := by
  refine funext (Fin.forall_fin_two.mpr ⟨Fin.ext ?_, Fin.ext ?_⟩)
  · exact (congrArg (fun z => z * 256 + 1 * r.val) (congrFun (ix_12 m hO t) (0 : Fin 2))).trans (by show t.val * 256 + 1 * r.val = t.val * 256 + r.val; omega)
  · exact (congrArg (fun z => z * 128 + 1 * k.val) (congrFun (ix_12 m hO t) (1 : Fin 2))).trans (by show 0 * 128 + 1 * k.val = k.val; omega)
/-- Every element of window 6's array lies in some block. -/
theorem cov6 (hO : Ok m) : ((cfgM m hO).win 6).Covers := by
  refine ⟨(by decide : ∀ a : Fin 3, 0 < S1x1x256.size a), fun β => ?_⟩
  have h0 : (β (0 : Fin 3)).val < 6 := (lt_of_lt_of_eq (β (0 : Fin 3)).isLt (show (S6x1x256.size 0 + S1x1x256.size 0 - 1) / S1x1x256.size 0 = 6 from rfl))
  have h1 : (β (1 : Fin 3)).val < 1 := (lt_of_lt_of_eq (β (1 : Fin 3)).isLt (show (S6x1x256.size 1 + S1x1x256.size 1 - 1) / S1x1x256.size 1 = 1 from rfl))
  have h2 : (β (2 : Fin 3)).val < 1 := (lt_of_lt_of_eq (β (2 : Fin 3)).isLt (show (S6x1x256.size 2 + S1x1x256.size 2 - 1) / S1x1x256.size 2 = 1 from rfl))
  refine ⟨⟨_, h0⟩, flush0_6 (adm m hO) _, fun a => ⟨?_, Or.inl rfl⟩⟩
  refine (congrFun (ix_6 m hO ⟨_, h0⟩) a).trans ?_
  revert a
  refine Fin.forall_fin_succ.mpr ⟨rfl, Fin.forall_fin_two.mpr ⟨?_, ?_⟩⟩
  · show 0 = (β (1 : Fin 3)).val; omega
  · show 0 = (β (2 : Fin 3)).val; omega
/-- The array element behind an element of window 6's block. -/
theorem emb6 (hO : Ok m) (t : Fin grid0.N) (r : Fin 256) :
    (((cfgM m hO).win 6).blk t).view.emb (ix3 0 0 r) = ix3 (pt t) 0 r := by
  refine funext (Fin.forall_fin_succ.mpr ⟨Fin.ext ?_, Fin.forall_fin_two.mpr ⟨Fin.ext ?_, Fin.ext ?_⟩⟩)
  · exact (congrArg (fun z => z * 1 + 1 * 0) (congrFun (ix_6 m hO t) (0 : Fin 3))).trans (by show t.val * 1 + 1 * 0 = t.val; omega)
  · exact (congrArg (fun z => z * 1 + 1 * 0) (congrFun (ix_6 m hO t) (1 : Fin 3))).trans (by rfl)
  · exact (congrArg (fun z => z * 256 + 1 * r.val) (congrFun (ix_6 m hO t) (2 : Fin 3))).trans (by show 0 * 256 + 1 * r.val = r.val; omega)
/-- Every element of window 8's array lies in some block. -/
theorem cov8 (hO : Ok m) : ((cfgM m hO).win 8).Covers := by
  refine ⟨(by decide : ∀ a : Fin 3, 0 < S1x1x256.size a), fun β => ?_⟩
  have h0 : (β (0 : Fin 3)).val < 6 := (lt_of_lt_of_eq (β (0 : Fin 3)).isLt (show (S6x1x256.size 0 + S1x1x256.size 0 - 1) / S1x1x256.size 0 = 6 from rfl))
  have h1 : (β (1 : Fin 3)).val < 1 := (lt_of_lt_of_eq (β (1 : Fin 3)).isLt (show (S6x1x256.size 1 + S1x1x256.size 1 - 1) / S1x1x256.size 1 = 1 from rfl))
  have h2 : (β (2 : Fin 3)).val < 1 := (lt_of_lt_of_eq (β (2 : Fin 3)).isLt (show (S6x1x256.size 2 + S1x1x256.size 2 - 1) / S1x1x256.size 2 = 1 from rfl))
  refine ⟨⟨_, h0⟩, flush0_8 (adm m hO) _, fun a => ⟨?_, Or.inl rfl⟩⟩
  refine (congrFun (ix_8 m hO ⟨_, h0⟩) a).trans ?_
  revert a
  refine Fin.forall_fin_succ.mpr ⟨rfl, Fin.forall_fin_two.mpr ⟨?_, ?_⟩⟩
  · show 0 = (β (1 : Fin 3)).val; omega
  · show 0 = (β (2 : Fin 3)).val; omega
/-- The array element behind an element of window 8's block. -/
theorem emb8 (hO : Ok m) (t : Fin grid0.N) (r : Fin 256) :
    (((cfgM m hO).win 8).blk t).view.emb (ix3 0 0 r) = ix3 (pt t) 0 r := by
  refine funext (Fin.forall_fin_succ.mpr ⟨Fin.ext ?_, Fin.forall_fin_two.mpr ⟨Fin.ext ?_, Fin.ext ?_⟩⟩)
  · exact (congrArg (fun z => z * 1 + 1 * 0) (congrFun (ix_8 m hO t) (0 : Fin 3))).trans (by show t.val * 1 + 1 * 0 = t.val; omega)
  · exact (congrArg (fun z => z * 1 + 1 * 0) (congrFun (ix_8 m hO t) (1 : Fin 3))).trans (by rfl)
  · exact (congrArg (fun z => z * 256 + 1 * r.val) (congrFun (ix_8 m hO t) (2 : Fin 3))).trans (by show 0 * 256 + 1 * r.val = r.val; omega)
/-- Every element of window 10's array lies in some block. -/
theorem cov10 (hO : Ok m) : ((cfgM m hO).win 10).Covers := by
  refine ⟨(by decide : ∀ a : Fin 3, 0 < S1x1x256.size a), fun β => ?_⟩
  have h0 : (β (0 : Fin 3)).val < 6 := (lt_of_lt_of_eq (β (0 : Fin 3)).isLt (show (S6x1x256.size 0 + S1x1x256.size 0 - 1) / S1x1x256.size 0 = 6 from rfl))
  have h1 : (β (1 : Fin 3)).val < 1 := (lt_of_lt_of_eq (β (1 : Fin 3)).isLt (show (S6x1x256.size 1 + S1x1x256.size 1 - 1) / S1x1x256.size 1 = 1 from rfl))
  have h2 : (β (2 : Fin 3)).val < 1 := (lt_of_lt_of_eq (β (2 : Fin 3)).isLt (show (S6x1x256.size 2 + S1x1x256.size 2 - 1) / S1x1x256.size 2 = 1 from rfl))
  refine ⟨⟨_, h0⟩, flush0_10 (adm m hO) _, fun a => ⟨?_, Or.inl rfl⟩⟩
  refine (congrFun (ix_10 m hO ⟨_, h0⟩) a).trans ?_
  revert a
  refine Fin.forall_fin_succ.mpr ⟨rfl, Fin.forall_fin_two.mpr ⟨?_, ?_⟩⟩
  · show 0 = (β (1 : Fin 3)).val; omega
  · show 0 = (β (2 : Fin 3)).val; omega
/-- The array element behind an element of window 10's block. -/
theorem emb10 (hO : Ok m) (t : Fin grid0.N) (r : Fin 256) :
    (((cfgM m hO).win 10).blk t).view.emb (ix3 0 0 r) = ix3 (pt t) 0 r := by
  refine funext (Fin.forall_fin_succ.mpr ⟨Fin.ext ?_, Fin.forall_fin_two.mpr ⟨Fin.ext ?_, Fin.ext ?_⟩⟩)
  · exact (congrArg (fun z => z * 1 + 1 * 0) (congrFun (ix_10 m hO t) (0 : Fin 3))).trans (by show t.val * 1 + 1 * 0 = t.val; omega)
  · exact (congrArg (fun z => z * 1 + 1 * 0) (congrFun (ix_10 m hO t) (1 : Fin 3))).trans (by rfl)
  · exact (congrArg (fun z => z * 256 + 1 * r.val) (congrFun (ix_10 m hO t) (2 : Fin 3))).trans (by show 0 * 256 + 1 * r.val = r.val; omega)

/-- The activation block of a grid point, in the launch array. -/
theorem iblk0 (hO : Ok m) (c : Dev nD) (t : Fin grid0.N) (r : Fin 256) (k : Fin 3584) :
    iblk m hO c 0 t (ix2 r k) = m ((c : Thread nD τ).loc main_arg0) (ix2 (row t r) k) := by
  blk_ext! [iblk, V]
  · exact (congrArg (fun z => z * 256 + r.val) (congrFun (ix_0 m hO t) (0 : Fin 2))).trans (by first | rfl | (show 0 * 256 + r.val = r.val; omega) | (show t.val * 1 + 0 = t.val; omega))
  · exact (congrArg (fun z => z * 3584 + k.val) (congrFun (ix_0 m hO t) (1 : Fin 2))).trans (by first | rfl | (show 0 * 3584 + k.val = k.val; omega) | (show t.val * 1 + 0 = t.val; omega))
/-- The block of the first factor's codes at a grid point, in the launch array. -/
theorem iblk1 (hO : Ok m) (c : Dev nD) (t : Fin grid0.N) (j : Fin 160) (k : Fin 3584) :
    iblk m hO c 1 t (ix2 j k) = m ((c : Thread nD τ).loc main_arg1) (ix2 j k) := by
  blk_ext! [iblk, V]
  · exact (congrArg (fun z => z * 160 + j.val) (congrFun (ix_1 m hO t) (0 : Fin 2))).trans (by first | rfl | (show 0 * 160 + j.val = j.val; omega) | (show t.val * 1 + 0 = t.val; omega))
  · exact (congrArg (fun z => z * 3584 + k.val) (congrFun (ix_1 m hO t) (1 : Fin 2))).trans (by first | rfl | (show 0 * 3584 + k.val = k.val; omega) | (show t.val * 1 + 0 = t.val; omega))
/-- The block of the first factor's scales at a grid point, in the launch array. -/
theorem iblk2 (hO : Ok m) (c : Dev nD) (t : Fin grid0.N) (j : Fin 160) :
    iblk m hO c 2 t (ix2 0 j) = m ((c : Thread nD τ).loc main_arg2) (ix2 0 j) := by
  blk_ext! [iblk, V]
  · exact (congrArg (fun z => z * 1 + 0) (congrFun (ix_2 m hO t) (0 : Fin 2))).trans (by first | rfl | (show 0 * 1 + 0 = 0; omega) | (show t.val * 1 + 0 = t.val; omega))
  · exact (congrArg (fun z => z * 160 + j.val) (congrFun (ix_2 m hO t) (1 : Fin 2))).trans (by first | rfl | (show 0 * 160 + j.val = j.val; omega) | (show t.val * 1 + 0 = t.val; omega))
/-- The block of packed cores at a grid point, in the launch array. -/
theorem iblk3 (hO : Ok m) (c : Dev nD) (t : Fin grid0.N) (g : Fin 41) (b : Fin 80) (n : Fin 160) :
    iblk m hO c 3 t (ix3 g b n) = m ((c : Thread nD τ).loc main_arg3) (ix3 g b n) := by
  blk_ext! [iblk, V]
  · exact (congrArg (fun z => z * 41 + g.val) (congrFun (ix_3 m hO t) (0 : Fin 3))).trans (by first | rfl | (show 0 * 41 + g.val = g.val; omega) | (show t.val * 1 + 0 = t.val; omega))
  · exact (congrArg (fun z => z * 80 + b.val) (congrFun (ix_3 m hO t) (1 : Fin 3))).trans (by first | rfl | (show 0 * 80 + b.val = b.val; omega) | (show t.val * 1 + 0 = t.val; omega))
  · exact (congrArg (fun z => z * 160 + n.val) (congrFun (ix_3 m hO t) (2 : Fin 3))).trans (by first | rfl | (show 0 * 160 + n.val = n.val; omega) | (show t.val * 1 + 0 = t.val; omega))
/-- The block of core scales at a grid point, in the launch array. -/
theorem iblk4 (hO : Ok m) (c : Dev nD) (t : Fin grid0.N) (g : Fin 41) (n : Fin 160) :
    iblk m hO c 4 t (ix2 g n) = m ((c : Thread nD τ).loc main_arg4) (ix2 g n) := by
  blk_ext! [iblk, V]
  · exact (congrArg (fun z => z * 41 + g.val) (congrFun (ix_4 m hO t) (0 : Fin 2))).trans (by first | rfl | (show 0 * 41 + g.val = g.val; omega) | (show t.val * 1 + 0 = t.val; omega))
  · exact (congrArg (fun z => z * 160 + n.val) (congrFun (ix_4 m hO t) (1 : Fin 2))).trans (by first | rfl | (show 0 * 160 + n.val = n.val; omega) | (show t.val * 1 + 0 = t.val; omega))

/-- The argument arrays, as plain functions. -/
abbrev xf (c : Dev nD) : Fin 1536 → Fin 3584 → EReal := fun i k => m ((c : Thread nD τ).loc main_arg0) (ix2 i k)
abbrev vf (c : Dev nD) : Fin 160 → Fin 3584 → EReal := fun j k => m ((c : Thread nD τ).loc main_arg1) (ix2 j k)
abbrev vsf (c : Dev nD) : Fin 160 → EReal := fun j => m ((c : Thread nD τ).loc main_arg2) (ix2 0 j)
abbrev pf (c : Dev nD) : Fin 41 → Fin 80 → Fin 160 → BitVec 8 := fun g b n => m ((c : Thread nD τ).loc main_arg3) (ix3 g b n)
abbrev ssf (c : Dev nD) : Fin 41 → Fin 160 → EReal := fun g n => m ((c : Thread nD τ).loc main_arg4) (ix2 g n)
abbrev gsf (c : Dev nD) : Fin 41 → BitVec 32 := fun g => m ((c : Thread nD τ).loc main_arg5) (ix1 g)
abbrev zf (c : Dev nD) (i : Fin 1536) : Fin 160 → EReal := rank (xf m c i) (vf m c) (vsf m c)
abbrev hf (c : Dev nD) (i : Fin 1536) : Fin 160 → EReal := hid (zf m c i) (pf m c) (ssf m c) (gsf m c) (BitVec.ofNat 32 i)

/-- An index of a one-by-one-by-256 block is its last coordinate. -/
theorem eq_one (y : S1x1x256.Idx) : ∃ r : Fin 256, y = ix3 0 0 r :=
  ⟨y 2, (eq_ix3 y).trans (congrArg₂ (fun a b : Fin 1 => ix3 a b (y 2)) (Subsingleton.elim _ _) (Subsingleton.elim _ _))⟩

/-- What the body reads of the activation block. -/
theorem rd0 (hO : Ok m) (c : Dev nD) (t : Fin grid0.N) (r : Fin 256) (k : Fin 3584) :
    View.read (Elt Ideal) (ms0_0 m hO t).view ((hs0_0 m hO t).unread (iblk m hO c 0 t)) (ix2 r k) = xf m c (row t r) k :=
  (congrFun (Memref.IsWhole.read_unread (hs0_0 m hO t) (iblk m hO c 0 t)) (ix2 r k)).trans (iblk0 m hO c t r k)
/-- What the body reads of the first factor's codes. -/
theorem rd1 (hO : Ok m) (c : Dev nD) (t : Fin grid0.N) (j : Fin 160) (k : Fin 3584) :
    View.read (Elt Ideal) (ms0_1 m hO t).view ((hs0_1 m hO t).unread (iblk m hO c 1 t)) (ix2 j k) = vf m c j k :=
  (congrFun (Memref.IsWhole.read_unread (hs0_1 m hO t) (iblk m hO c 1 t)) (ix2 j k)).trans (iblk1 m hO c t j k)
/-- What the body reads of the first factor's scales. -/
theorem rd2 (hO : Ok m) (c : Dev nD) (t : Fin grid0.N) (j : Fin 160) :
    View.read (Elt Ideal) (ms0_2 m hO t).view ((hs0_2 m hO t).unread (iblk m hO c 2 t)) (ix2 0 j) = vsf m c j :=
  (congrFun (Memref.IsWhole.read_unread (hs0_2 m hO t) (iblk m hO c 2 t)) (ix2 0 j)).trans (iblk2 m hO c t j)

/-- The rank values that the body computes from a row's block are those of the row. -/
theorem zblk (c : Dev nD) (i : Fin 1536) (r : Fin 256) (A : Vec Ideal S256x3584 .bf16) (B : Vec Ideal S160x3584 .fp8e4m3) (C : Vec Ideal S1x160 .f32)
    (hA : ∀ k, A (ix2 r k) = xf m c i k) (hB : ∀ j k, B (ix2 j k) = vf m c j k) (hC : ∀ j, C (ix2 0 j) = vsf m c j) :
    (fun j : Fin 160 => k0_pay9 (F := Ideal) (k0_pay8 A B) C (ix2 r j)) = zf m c i := by
  funext j
  refine (pay9 _ _ _ r j).trans ?_
  simp only [hA, hB, hC]

/-- The coordinate of grid point `t` is `t`. -/
theorem coord (t : Fin grid0.N) : (grid0.coords t 0).val = t.val :=
  (by decide +kernel : ∀ t : Fin grid0.N, (grid0.coords t 0).val = t.val) t

/-- The table's word at pass `k` of the loop is the size of tenant `k`. -/
theorem wordT (c : Dev nD) (k : Fin k0_t1_loop.trips) :
    word (F := Ideal) c tbM0_0 (tbl m 0) k = gsf m c ⟨k, trips_eq ▸ k.isLt⟩ := by
  have hc : c = (0 : Dev nD) := Subsingleton.elim _ _
  subst hc
  unfold word
  refine congrArg (m (((0 : Dev nD) : Thread nD τ).loc main_arg5)) ?_
  refine funext (Fin.forall_fin_one.mpr (Fin.ext ?_))
  show k0_off1 k 0 + 1 * 0 = k.val
  rw [k0_off1_eq]; rfl

/-- The scratch after the loop holds the hidden values of the block's rows. -/
theorem hblk (hO : Ok m) (c : Dev nD) (t : Fin grid0.N) (r : Fin 256) (n : Fin 160) (A : Vec Ideal S256x3584 .bf16) (B : Vec Ideal S160x3584 .fp8e4m3) (C : Vec Ideal S1x160 .f32)
    (hA : ∀ k, A (ix2 r k) = xf m c (row t r) k) (hB : ∀ j k, B (ix2 j k) = vf m c j k) (hC : ∀ j, C (ix2 0 j) = vsf m c j) (h3 : (ms0_3 m hO t).IsWhole) (h4 : (ms0_4 m hO t).IsWhole) (G)
    (hG : View.read (Elt Ideal) (View.whole cc0_scratch0) G (ix2 r n) = (0 : EReal)) :
    View.read (Elt Ideal) (View.whole cc0_scratch0)
      (hAt (F := Ideal) c tbM0_0 (ms0_3 m hO t) (ms0_4 m hO t) scM0_0 (BitVec.ofNat 32 (grid0.coords t 0))
        (k0_pay8 A B) C (tbl m 0)
        (Memref.IsWhole.unread h3 (iblk m hO c 3 t)) (Memref.IsWhole.unread h4 (iblk m hO c 4 t)) G 0#32 (Scf.trips 0#32 (Scalar.addi 0#32 41#32) 1#32)) (ix2 r n)
      = hf m c (row t r) n := by
  rw [show Scf.trips 0#32 (Scalar.addi 0#32 41#32) 1#32 = 41 from trips_eq]
  refine (hAt_read c tbM0_0 _ h3 _ h4 scM0_0 _ (by rw [coord]; exact t.isLt) _ _ _ _ _ G (gsf m c) (wordT m c) r n hG 41).trans ?_
  rw [zblk m c (row t r) r A B C hA hB hC, hf, hid]
  simp only [iblk3, iblk4]
  rw [coord]
  congr 1
  apply BitVec.eq_of_toNat_eq
  simp

/-- Once cleared, the scratch reads zero everywhere. -/
theorem zero_read (r : Fin 256) (n : Fin 160) (f) :
    View.read (Elt Ideal) (View.whole cc0_scratch0) (View.write (Elt Ideal)
            ((View.whole cc0_scratch0).slice (Rect.unit ![0, 0] ![256, 160] inb_S256x160_S256x160_0_0)) f (k0_pay13 (F := Ideal)) Finset.univ) (ix2 r n) = (0 : EReal) := by
  refine (congrFun (View.read_writes_full (Val := Elt Ideal) (View.whole cc0_scratch0) f (off := ![0, 0]) inb_S256x160_S256x160_0_0 (k0_pay13 (F := Ideal)) []) (ix2 r n)).trans ?_
  exact pay13 r n

/-- The array of window 5 after the run: the fp8 codes of the rows. -/
theorem final5 (hO : Ok m) (c : Dev nD) : (dats m hO 0 c).arrAt 5 (cfgM m hO).N
    = fun y : S1536x3584.Idx => (code8 (xf m c (y 0)) (y 1) : Ideal .fp8e4m3) := by
  refine (dats m hO 0 c).arrAt_eq_of_covers 5 _ (cov5 m hO) fun t _ y => ?_
  obtain ⟨r, k, rfl⟩ : ∃ (r : Fin 256) (k : Fin 3584), y = ix2 r k := ⟨_, _, eq_ix2 (n0 := 256) (n1 := 3584) y⟩
  refine Eq.trans ?_ (congrArg (fun y : S1536x3584.Idx => (code8 (xf m c (y 0)) (y 1) : Ideal .fp8e4m3)) (emb5 m hO t r k)).symm
  blk_simp
  rw [after0_5]
  unfold outsAt0
  frame_out
  refine (pay7 _ r k).trans ?_
  refine congrArg (fun f : Fin 3584 → EReal => code8 f k) (funext fun k => ?_)
  exact rd0 m hO c t r k

/-- The array of window 6 after the run: the scales of the rows, one per row. -/
theorem final6 (hO : Ok m) (c : Dev nD) : (dats m hO 0 c).arrAt 6 (cfgM m hO).N
    = fun y : S6x1x256.Idx => (scale8 (xf m c (row (y 0) (y 2))) : Ideal .f32) := by
  refine (dats m hO 0 c).arrAt_eq_of_covers 6 _ (cov6 m hO) fun t _ y => ?_
  obtain ⟨r, rfl⟩ : ∃ (r : Fin 256), y = ix3 0 0 r := eq_one y
  refine Eq.trans ?_ (congrArg (fun y : S6x1x256.Idx => (scale8 (xf m c (row (y 0) (y 2))) : Ideal .f32)) (emb6 m hO t r)).symm
  blk_simp
  rw [after0_6]
  unfold outsAt0
  frame_out
  refine (pay22 _ r).trans ((pay6 _ r).trans ?_)
  refine congrArg (fun f : Fin 3584 → EReal => scale8 f) (funext fun k => ?_)
  exact rd0 m hO c t r k

/-- The array of window 7 after the run: the whole-number codes of the rank values. -/
theorem final7 (hO : Ok m) (c : Dev nD) : (dats m hO 0 c).arrAt 7 (cfgM m hO).N
    = fun y : S1536x160.Idx => Ideal.fptosi 8 (codeI (zf m c (y 0)) (y 1)) := by
  refine (dats m hO 0 c).arrAt_eq_of_covers 7 _ (cov7 m hO) fun t _ y => ?_
  obtain ⟨r, k, rfl⟩ : ∃ (r : Fin 256) (k : Fin 160), y = ix2 r k := ⟨_, _, eq_ix2 (n0 := 256) (n1 := 160) y⟩
  refine Eq.trans ?_ (congrArg (fun y : S1536x160.Idx => Ideal.fptosi 8 (codeI (zf m c (y 0)) (y 1))) (emb7 m hO t r k)).symm
  blk_simp
  rw [after0_7]
  unfold outsAt0
  frame_out
  refine (pay12 _ _ r k).trans ?_
  refine congrArg (fun f : Fin 160 → EReal => Ideal.fptosi 8 (codeI f k)) ?_
  exact zblk m c _ r _ _ _ (rd0 m hO c t r) (rd1 m hO c t) (rd2 m hO c t)

/-- The array of window 8 after the run: the scales of the rank values. -/
theorem final8 (hO : Ok m) (c : Dev nD) : (dats m hO 0 c).arrAt 8 (cfgM m hO).N
    = fun y : S6x1x256.Idx => (scaleI (zf m c (row (y 0) (y 2))) : Ideal .f32) := by
  refine (dats m hO 0 c).arrAt_eq_of_covers 8 _ (cov8 m hO) fun t _ y => ?_
  obtain ⟨r, rfl⟩ : ∃ (r : Fin 256), y = ix3 0 0 r := eq_one y
  refine Eq.trans ?_ (congrArg (fun y : S6x1x256.Idx => (scaleI (zf m c (row (y 0) (y 2))) : Ideal .f32)) (emb8 m hO t r)).symm
  blk_simp
  rw [after0_8]
  unfold outsAt0
  frame_out
  refine (pay23 _ r).trans ((pay10 _ _ r).trans ?_)
  refine congrArg (fun f : Fin 160 → EReal => scaleI f) ?_
  exact zblk m c _ r _ _ _ (rd0 m hO c t r) (rd1 m hO c t) (rd2 m hO c t)

/-- The array of window 9 after the run: the fp8 codes of the hidden values. -/
theorem final9 (hO : Ok m) (c : Dev nD) : (dats m hO 0 c).arrAt 9 (cfgM m hO).N
    = fun y : S1536x160.Idx => (code8 (hf m c (y 0)) (y 1) : Ideal .fp8e4m3) := by
  refine (dats m hO 0 c).arrAt_eq_of_covers 9 _ (cov9 m hO) fun t _ y => ?_
  obtain ⟨r, k, rfl⟩ : ∃ (r : Fin 256) (k : Fin 160), y = ix2 r k := ⟨_, _, eq_ix2 (n0 := 256) (n1 := 160) y⟩
  refine Eq.trans ?_ (congrArg (fun y : S1536x160.Idx => (code8 (hf m c (y 0)) (y 1) : Ideal .fp8e4m3)) (emb9 m hO t r k)).symm
  blk_simp
  rw [after0_9]
  unfold outsAt0
  frame_out
  refine (pay18 _ r k).trans ?_
  refine congrArg (fun f : Fin 160 → EReal => code8 f k) (funext fun n => ?_)
  exact hblk m hO c t r n _ _ _ (rd0 m hO c t r) (rd1 m hO c t) (rd2 m hO c t) _ _ _ (zero_read r n _)

/-- The array of window 10 after the run: the scales of the hidden values. -/
theorem final10 (hO : Ok m) (c : Dev nD) : (dats m hO 0 c).arrAt 10 (cfgM m hO).N
    = fun y : S6x1x256.Idx => (scale8 (hf m c (row (y 0) (y 2))) : Ideal .f32) := by
  refine (dats m hO 0 c).arrAt_eq_of_covers 10 _ (cov10 m hO) fun t _ y => ?_
  obtain ⟨r, rfl⟩ : ∃ (r : Fin 256), y = ix3 0 0 r := eq_one y
  refine Eq.trans ?_ (congrArg (fun y : S6x1x256.Idx => (scale8 (hf m c (row (y 0) (y 2))) : Ideal .f32)) (emb10 m hO t r)).symm
  blk_simp
  rw [after0_10]
  unfold outsAt0
  frame_out
  refine (pay1 _ r).trans ((pay17 _ r).trans ?_)
  refine congrArg (fun f : Fin 160 → EReal => scale8 f) (funext fun n => ?_)
  exact hblk m hO c t r n _ _ _ (rd0 m hO c t r) (rd1 m hO c t) (rd2 m hO c t) _ _ _ (zero_read r n _)

/-- The array of window 11 after the run: the scales of the rows on every lane. -/
theorem final11 (hO : Ok m) (c : Dev nD) : (dats m hO 0 c).arrAt 11 (cfgM m hO).N
    = fun y : S1536x128.Idx => (scale8 (xf m c (y 0)) : Ideal .f32) := by
  refine (dats m hO 0 c).arrAt_eq_of_covers 11 _ (cov11 m hO) fun t _ y => ?_
  obtain ⟨r, k, rfl⟩ : ∃ (r : Fin 256) (k : Fin 128), y = ix2 r k := ⟨_, _, eq_ix2 (n0 := 256) (n1 := 128) y⟩
  refine Eq.trans ?_ (congrArg (fun y : S1536x128.Idx => (scale8 (xf m c (y 0)) : Ideal .f32)) (emb11 m hO t r k)).symm
  blk_simp
  rw [after0_11]
  unfold outsAt0
  frame_out
  refine (pay2 _ r k).trans ((pay6 _ r).trans ?_)
  refine congrArg (fun f : Fin 3584 → EReal => scale8 f) (funext fun k => ?_)
  exact rd0 m hO c t r k

/-- The array of window 12 after the run: the scales of the hidden values on every lane. -/
theorem final12 (hO : Ok m) (c : Dev nD) : (dats m hO 0 c).arrAt 12 (cfgM m hO).N
    = fun y : S1536x128.Idx => (scale8 (hf m c (y 0)) : Ideal .f32) := by
  refine (dats m hO 0 c).arrAt_eq_of_covers 12 _ (cov12 m hO) fun t _ y => ?_
  obtain ⟨r, k, rfl⟩ : ∃ (r : Fin 256) (k : Fin 128), y = ix2 r k := ⟨_, _, eq_ix2 (n0 := 256) (n1 := 128) y⟩
  refine Eq.trans ?_ (congrArg (fun y : S1536x128.Idx => (scale8 (hf m c (y 0)) : Ideal .f32)) (emb12 m hO t r k)).symm
  blk_simp
  rw [after0_12]
  unfold outsAt0
  frame_out
  refine (pay3 _ r k).trans ((pay17 _ r).trans ?_)
  refine congrArg (fun f : Fin 160 → EReal => scale8 f) (funext fun n => ?_)
  exact hblk m hO c t r n _ _ _ (rd0 m hO c t r) (rd1 m hO c t) (rd2 m hO c t) _ _ _ (zero_read r n _)

end Cert.LoraIdeal.Hand

end
-- ==== Proof.LoraRefNum.lean ====
/- Hand-written, untrusted. Facts about numbers and words that the reference's steps come down to. -/
module

public import proofs.«01_k».proof.Proof.LoraNum

@[expose] public section

set_option maxRecDepth 16384

noncomputable section

namespace Cert.LoraSpec

open Idealize.ShloMosaic

/-- The reference's exponent: the number zero for an empty row. -/
def ex (a : EReal) : EReal := if a = 0 then Ideal.ofBits .f32 0#32 else expo a

/-- The pattern of 0. -/
theorem b0 : Ideal.ofBits .f32 0#32 = (0 : EReal) := by
  simp [Ideal.ofBits, Ideal.ieee]
/-- The pattern of 1. -/
theorem b1 : Ideal.ofBits .f32 0x3F800000#32 = (1 : EReal) := by
  rw [← EReal.coe_one]
  simp [Ideal.ofBits, Ideal.ieee, -EReal.coe_mul, -EReal.coe_one]; norm_num [← EReal.coe_mul]

/-- Two to the power zero is one. -/
theorem exp2_zero : Ideal.exp2 0 = 1 := by
  have h : Ideal.exp2 ((0 : ℝ) : EReal) = ((Real.rpow 2 0 : ℝ) : EReal) := rfl
  rw [EReal.coe_zero] at h
  rw [h, Real.rpow_eq_pow, Real.rpow_zero, EReal.coe_one]

/-- Two to the exponent is the scale. -/
theorem pow_ex (a : EReal) : Ideal.pow (Ideal.ofBits .f32 0x40000000#32) (ex a) = up a := by
  rw [pow_two, ex, up]
  split
  · rw [b0, exp2_zero]
  · rfl
/-- Two to minus the exponent is the inverse scale. -/
theorem pow_neg_ex (a : EReal) : Ideal.pow (Ideal.ofBits .f32 0x40000000#32) (-ex a) = down a := by
  rw [pow_two, ex, down]
  split
  · rw [b0, neg_zero, exp2_zero]
  · rw [zero_sub]

/-- The low half of a byte, less sixteen where it is eight or more, is that half read as a signed number. -/
theorem nib_lo' : ∀ b : BitVec 8, Scalar.select (IntOp.cmpi .sge (IntOp.andi (BitVec.setWidth 32 b) 15#32) 8#32)
    (IntOp.subi (IntOp.andi (BitVec.setWidth 32 b) 15#32) 16#32) (IntOp.andi (BitVec.setWidth 32 b) 15#32)
    = (b.setWidth 4).signExtend 32 := by decide +kernel
/-- The high half of a byte, less sixteen where it is eight or more, is that half read as a signed number. -/
theorem nib_hi' : ∀ b : BitVec 8, Scalar.select (IntOp.cmpi .sge (IntOp.andi (IntOp.shrsi .host (BitVec.setWidth 32 b) 4#32) 15#32) 8#32)
    (IntOp.subi (IntOp.andi (IntOp.shrsi .host (BitVec.setWidth 32 b) 4#32) 15#32) 16#32) (IntOp.andi (IntOp.shrsi .host (BitVec.setWidth 32 b) 4#32) 15#32)
    = ((b >>> 4).setWidth 4).signExtend 32 := by decide +kernel

/-- The word of a tenant's core at row `k`. -/
def nibW (p : Fin 80 → BitVec 8) (k : Fin 160) : BitVec 32 :=
  if k.val % 2 = 0 then ((p ⟨k.val / 2, by omega⟩).setWidth 4).signExtend 32
    else (((p ⟨k.val / 2, by omega⟩) >>> 4).setWidth 4).signExtend 32
/-- The entry as a word is the entry as a real. -/
theorem nibW_real (p : Fin 80 → BitVec 8) (k : Fin 160) : (((nibW p k).toInt : ℤ) : ℝ) = nib p k := by
  rw [nibW, nib]
  split <;> (refine (congrArg (fun z : ℤ => (z : ℝ)) (BitVec.toInt_signExtend_of_le (by norm_num))))

/-- A small number is itself as a signed word. -/
theorem small_toInt (n : ℕ) (h : n < 2 ^ 31) : (BitVec.ofNat 32 n).toInt = n := by
  have e : (BitVec.ofNat 32 n).toNat = n := by rw [BitVec.toNat_ofNat, Nat.mod_eq_of_lt (by omega)]
  rw [BitVec.toInt_eq_toNat_of_lt (by rw [e]; omega), e]

/-- A fold over the first `n + 1` indices by its last one. -/
theorem fold_last {α : Type} (op : α → α → α) [Std.Commutative op] [Std.Associative op] (b : α) (n : ℕ) (f : Fin (n + 1) → α) :
    Finset.fold op b f Finset.univ = op (f (Fin.last n)) (Finset.fold op b (fun i : Fin n => f i.castSucc) Finset.univ) := by
  rw [Fin.univ_castSuccEmb, Finset.fold_cons, Finset.fold_map]
  rfl

/-- The running sum of the first `n` sizes, those past `g` left out. -/
theorem fold_start (s : Fin 41 → BitVec 32) (g : Fin 41) (n : ℕ) (hn : n ≤ 41) :
    Finset.fold IntOp.addi (0#32) (fun x : Fin n => Scalar.select (IntOp.cmpi .sle (BitVec.ofNat 32 x) (BitVec.ofNat 32 g)) (s (x.castLE hn)) 0#32) Finset.univ
      = start s (min n (g + 1)) := by
  induction n with
  | zero => simp [start]
  | succ n ih =>
    rw [fold_last]
    refine (congrArg (IntOp.addi _) (ih (by omega))).trans ?_
    have hn' : n < 41 := by omega
    have hg := g.isLt
    by_cases h : n ≤ g.val
    · have c : (BitVec.ofNat 32 n).sle (BitVec.ofNat 32 g.val) = true := by
        rw [BitVec.sle_iff_toInt_le, small_toInt _ (by omega), small_toInt _ (by omega)]; omega
      rw [Nat.min_eq_left (by omega), Nat.min_eq_left (by omega), start, dif_pos hn']
      show IntOp.addi (Scalar.select (BitVec.ofBool ((BitVec.ofNat 32 n).sle (BitVec.ofNat 32 g.val))) (s ⟨n, hn'⟩) 0#32) (start s n) = _
      rw [c]
      exact BitVec.add_comm _ _
    · have c : (BitVec.ofNat 32 n).sle (BitVec.ofNat 32 g.val) = false := by
        rw [← Bool.not_eq_true, BitVec.sle_iff_toInt_le, small_toInt _ (by omega), small_toInt _ (by omega)]; omega
      rw [Nat.min_eq_right (by omega), Nat.min_eq_right (by omega)]
      show IntOp.addi (Scalar.select (BitVec.ofBool ((BitVec.ofNat 32 n).sle (BitVec.ofNat 32 g.val))) (s ⟨n, hn'⟩) 0#32) (start s (g.val + 1)) = _
      rw [c]
      exact BitVec.zero_add _

/-- The sum of the sizes up to a tenant is where the next one starts. -/
theorem sum_start (s : Fin 41 → BitVec 32) (g : Fin 41) :
    Finset.fold IntOp.addi (0#32) (fun x : Fin 41 => Scalar.select (IntOp.cmpi .sle (BitVec.ofNat 32 x) (BitVec.ofNat 32 g)) (s x) 0#32) Finset.univ
      = start s (g + 1) :=
  (fold_start s g 41 le_rfl).trans (by rw [Nat.min_eq_right (by omega)])

/-- An end less its size is a start. -/
theorem start_back (s : Fin 41 → BitVec 32) (g : Fin 41) : IntOp.subi (start s (g + 1)) (s g) = start s g := by
  rw [start, dif_pos g.isLt]
  exact BitVec.add_sub_cancel _ _

/-- The reference's mark of a row and a tenant: the tenant's number where it holds the row, else minus one. -/
def mark (s : Fin 41 → BitVec 32) (row : BitVec 32) (g : Fin 41) : BitVec 32 :=
  if owns s row g then BitVec.ofNat 32 g else 4294967295#32

/-- The comparisons of a row with start and end say whether the tenant holds it. -/
theorem mark_eq (s : Fin 41 → BitVec 32) (row : BitVec 32) (g : Fin 41) :
    Scalar.select (IntOp.andi (IntOp.cmpi .sge row (start s g)) (IntOp.cmpi .slt row (start s (g + 1)))) (BitVec.ofNat 32 g) 4294967295#32
      = mark s row g := by
  rw [mark, owns]
  show Scalar.select (IntOp.andi (BitVec.ofBool ((start s g).sle row)) (BitVec.ofBool (row.slt (start s (g + 1))))) _ _ = _
  cases (start s g).sle row <;> cases row.slt (start s (g + 1)) <;> rfl

/-- Of two tenants' numbers the signed maximum is the larger. -/
theorem maxs_up : ∀ k n : Fin 41, k < n → IntOp.maxsi (BitVec.ofNat 32 n) (BitVec.ofNat 32 k) = BitVec.ofNat 32 n := by decide +kernel
/-- A tenant's number is above minus one. -/
theorem maxs_neg : ∀ n : Fin 41, IntOp.maxsi (BitVec.ofNat 32 n) 4294967295#32 = BitVec.ofNat 32 n := by decide +kernel
/-- A tenant's number is above the least word. -/
theorem maxs_min : ∀ n : Fin 41, IntOp.maxsi (BitVec.ofNat 32 n) 2147483648#32 = BitVec.ofNat 32 n := by decide +kernel
/-- The same with the two in the other order. -/
theorem maxs_keep : ∀ n : Fin 41, IntOp.maxsi 4294967295#32 (BitVec.ofNat 32 n) = BitVec.ofNat 32 n := by decide +kernel

/-- After the first `n` tenants: either the largest mark is the last owner `k` and `last` its value, or nobody owns the row. -/
theorem fold_mark (s : Fin 41 → BitVec 32) (row : BitVec 32) (F : Fin 41 → EReal) (n : ℕ) (hn : n ≤ 41) :
    (∃ k : Fin 41, k.val < n ∧ Finset.fold IntOp.maxsi (2147483648#32) (fun x : Fin n => mark s row (x.castLE hn)) Finset.univ = BitVec.ofNat 32 k
        ∧ last s row F n = F k)
    ∨ ((Finset.fold IntOp.maxsi (2147483648#32) (fun x : Fin n => mark s row (x.castLE hn)) Finset.univ = 2147483648#32
        ∨ Finset.fold IntOp.maxsi (2147483648#32) (fun x : Fin n => mark s row (x.castLE hn)) Finset.univ = 4294967295#32) ∧ last s row F n = 0) := by
  induction n with
  | zero => right; simp [last]
  | succ n ih =>
    have hn' : n < 41 := by omega
    have e : Finset.fold IntOp.maxsi (2147483648#32) (fun x : Fin (n + 1) => mark s row (x.castLE hn)) Finset.univ
        = IntOp.maxsi (mark s row ⟨n, hn'⟩) (Finset.fold IntOp.maxsi (2147483648#32) (fun x : Fin n => mark s row (x.castLE (by omega))) Finset.univ) := fold_last _ _ _ _
    rw [e]
    rw [last, dif_pos hn']
    have h := ih (by omega)
    generalize Finset.fold IntOp.maxsi (2147483648#32) (fun x : Fin n => mark s row (x.castLE (by omega))) Finset.univ = M at h
    by_cases o : owns s row n = true
    · rw [mark, if_pos o, if_pos o]
      left
      refine ⟨⟨n, hn'⟩, Nat.lt_succ_self n, ?_, rfl⟩
      rcases h with ⟨k, hk, hM, -⟩ | ⟨hM | hM, -⟩ <;> rw [hM]
      · exact maxs_up k ⟨n, hn'⟩ hk
      · exact maxs_min ⟨n, hn'⟩
      · exact maxs_neg ⟨n, hn'⟩
    · rw [mark, if_neg o, if_neg o]
      rcases h with ⟨k, hk, hM, hl⟩ | ⟨hM | hM, hl⟩ <;> rw [hM]
      · left; exact ⟨k, by omega, maxs_keep k, hl⟩
      · right; exact ⟨Or.inr (by decide), hl⟩
      · right; exact ⟨Or.inr (by decide), hl⟩

/-- The numbers of the tenants differ as words. -/
theorem ofNat_inj : ∀ k g : Fin 41, BitVec.ofNat 32 k.val = BitVec.ofNat 32 g.val → k = g := by decide +kernel
/-- Minus one is no tenant's number. -/
theorem neg_ne : ∀ g : Fin 41, (4294967295#32 : BitVec 32) ≠ BitVec.ofNat 32 g.val := by decide +kernel
/-- The least word is no tenant's number. -/
theorem min_ne : ∀ g : Fin 41, (2147483648#32 : BitVec 32) ≠ BitVec.ofNat 32 g.val := by decide +kernel

/-- The values of the tenant with the largest mark, summed with zeros elsewhere, are the last owner's. -/
theorem sum_last (s : Fin 41 → BitVec 32) (row : BitVec 32) (F : Fin 41 → EReal) :
    ∑ g : Fin 41, Scalar.select (IntOp.cmpi .eq (Finset.fold IntOp.maxsi (2147483648#32) (fun x : Fin 41 => mark s row x) Finset.univ) (BitVec.ofNat 32 g)) (F g) (0 : EReal)
      = last s row F 41 := by
  have h := fold_mark s row F 41 le_rfl
  have e : (fun x : Fin 41 => mark s row (x.castLE le_rfl)) = fun x : Fin 41 => mark s row x := rfl
  rw [e] at h
  generalize Finset.fold IntOp.maxsi (2147483648#32) (fun x : Fin 41 => mark s row x) Finset.univ = M at h
  have c : ∀ (g : Fin 41), Scalar.select (IntOp.cmpi .eq M (BitVec.ofNat 32 g)) (F g) (0 : EReal) = if M = BitVec.ofNat 32 g then F g else 0 := by
    intro g
    show (if BitVec.ofBool (M == BitVec.ofNat 32 g) = 1#1 then F g else 0) = _
    by_cases q : M = BitVec.ofNat 32 g
    · rw [if_pos q, beq_iff_eq.mpr q]; rfl
    · rw [if_neg q, beq_eq_false_iff_ne.mpr q]; rfl
  simp only [c]
  rcases h with ⟨k, hk, hM, hl⟩ | ⟨hM | hM, hl⟩ <;> rw [hl, hM]
  · rw [Finset.sum_eq_single k]
    · rw [if_pos rfl]
    · intro g _ hg
      exact if_neg fun q => hg (ofNat_inj k g q).symm
    · intro hk; exact absurd (Finset.mem_univ k) hk
  · exact Finset.sum_eq_zero fun g _ => if_neg (min_ne g)
  · exact Finset.sum_eq_zero fun g _ => if_neg (neg_ne g)

end Cert.LoraSpec

end
-- ==== Proof.LoraRefHostA.lean ====
/- Hand-written, untrusted. What the reference's host operations leave in their buffers, over the extended reals: the codes and scales of the activations. -/
module

public import proofs.«01_k».proof.Proof.Gen.LoraRefIdeal
public import proofs.«01_k».proof.Proof.Gen.LoraRefIdeal.Frame
public import proofs.«01_k».proof.Proof.LoraRefNum
public import Idealize.ShloMosaic.Lib.StableHlo.ReadAt
public import Idealize.ShloMosaic.Lib.Claim

@[expose] public section

set_option maxRecDepth 16384

noncomputable section

namespace Cert.LoraRefIdeal.Hand

open Idealize.ShloMosaic Idealize.ShloMosaic.TcCoe Idealize.SL.Sem
open Cert.LoraRefIdeal.Gen Cert.LoraSpec

variable (σ : Valuation τ sig (Elt Ideal))

/-- These lines compute the rows widened, from what they find. -/
theorem a0 (X : Fin 1536 → Fin 3584 → EReal) (hX : ∀ r k, (σ (Proc.devRef .tc main_arg0) : S1536x3584.Idx → EReal) (ix2 r k) = X r k) (r : Fin 1536) (k : Fin 3584) :
    (StableHlo.after (hostOps0.take 4) σ (Proc.devRef .tc main_v0) : S1536x3584.Idx → EReal) (ix2 r k) = X r k := by
  after_reads_at
  simp only [hX]
/-- These lines compute the largest magnitude of a row, from what they find. -/
theorem a2 (X : Fin 1536 → Fin 3584 → EReal) (hX : ∀ r k, (σ (Proc.devRef .tc main_arg0) : S1536x3584.Idx → EReal) (ix2 r k) = X r k) (r : Fin 1536) :
    (StableHlo.after (hostOps0.take 4) σ (Proc.devRef .tc main_v2) : S1536.Idx → EReal) (ix1 r) = amax (X r) := by
  after_reads_at
  simp only [hX]
  rfl
/-- These lines compute the exponent of a row's scale, from what they find. -/
theorem a14 (A : Fin 1536 → EReal) (hA : ∀ r, (σ (Proc.devRef .tc main_v2) : S1536.Idx → EReal) (ix1 r) = A r) (r : Fin 1536) :
    (StableHlo.after (hostOps0.drop 4 ++ hostOps0_1) σ (Proc.devRef .tc main_v14) : S1536.Idx → EReal) (ix1 r) = ex (A r) := by
  after_reads_at
  simp only [hA]
  rfl
/-- These lines keep the rows widened, from what they find. -/
theorem a0' (X : Fin 1536 → Fin 3584 → EReal) (hX : ∀ r k, (σ (Proc.devRef .tc main_v0) : S1536x3584.Idx → EReal) (ix2 r k) = X r k) (r : Fin 1536) (k : Fin 3584) :
    (StableHlo.after (hostOps0.drop 4 ++ hostOps0_1) σ (Proc.devRef .tc main_v0) : S1536x3584.Idx → EReal) (ix2 r k) = X r k := by
  after_reads_at
  simp only [hX]
/-- These lines compute the fp8 codes of the rows, from what they find. -/
theorem a22 (X : Fin 1536 → Fin 3584 → EReal) (E : Fin 1536 → EReal) (hX : ∀ r k, (σ (Proc.devRef .tc main_v0) : S1536x3584.Idx → EReal) (ix2 r k) = X r k)
    (hE : ∀ r, (σ (Proc.devRef .tc main_v14) : S1536.Idx → EReal) (ix1 r) = E r) (r : Fin 1536) (k : Fin 3584) :
    (StableHlo.after (hostOps0_2 ++ hostOps0_3 ++ hostOps0_4) σ (Proc.devRef .tc main_v22) : S1536x3584.Idx → EReal) (ix2 r k)
      = (min (Ideal.ofBits .f32 0x43E00000#32) (max (Ideal.ofBits .f32 0xC3E00000#32) (X r k * Ideal.pow (Ideal.ofBits .f32 0x40000000#32) (-E r))) : EReal) := by
  after_reads_at
  simp only [hX, hE]
  rfl
/-- These lines compute the scales of the rows, from what they find. -/
theorem a23 (E : Fin 1536 → EReal)
    (hE : ∀ r, (σ (Proc.devRef .tc main_v14) : S1536.Idx → EReal) (ix1 r) = E r) (r : Fin 1536) :
    (StableHlo.after (hostOps0_2 ++ hostOps0_3 ++ hostOps0_4) σ (Proc.devRef .tc main_v23) : S1536.Idx → EReal) (ix1 r)
      = Ideal.pow (Ideal.ofBits .f32 0x40000000#32) (E r) := by
  after_reads_at
  simp only [hE]

end Cert.LoraRefIdeal.Hand

end
-- ==== Proof.LoraRefHostB.lean ====
/- Hand-written, untrusted. What the reference's host operations leave in their buffers, over the extended reals: the rank values, their scales and codes. -/
module

public import proofs.«01_k».proof.Proof.Gen.LoraRefIdeal
public import proofs.«01_k».proof.Proof.Gen.LoraRefIdeal.Frame
public import proofs.«01_k».proof.Proof.LoraRefNum
public import Idealize.ShloMosaic.Lib.StableHlo.ReadAt
public import Idealize.ShloMosaic.Lib.Claim

@[expose] public section

set_option maxRecDepth 16384

noncomputable section

namespace Cert.LoraRefIdeal.Hand

open Idealize.ShloMosaic Idealize.ShloMosaic.TcCoe Idealize.SL.Sem
open Cert.LoraRefIdeal.Gen Cert.LoraSpec

variable (σ : Valuation τ sig (Elt Ideal))

/-- These lines compute the rank values, from what they find. -/
theorem b29 (P : Fin 1536 → Fin 160 → EReal) (S : Fin 1536 → EReal) (T : Fin 160 → EReal)
    (hP : ∀ r k, (σ (Proc.devRef .tc main_v24) : S1536x160.Idx → EReal) (ix2 r k) = P r k)
    (hS : ∀ r, (σ (Proc.devRef .tc main_v23) : S1536.Idx → EReal) (ix1 r) = S r)
    (hT : ∀ k, (σ (Proc.devRef .tc main_arg2) : S1x160.Idx → EReal) (ix2 0 k) = T k) (r : Fin 1536) (k : Fin 160) :
    (StableHlo.after (hostOps1.take 5) σ (Proc.devRef .tc main_v29) : S1536x160.Idx → EReal) (ix2 r k) = (P r k * S r * T k : EReal) := by
  after_reads_at
  simp only [hP, hS, hT]
/-- These lines compute the largest magnitude of a row's rank values, from what they find. -/
theorem b31 (Z : Fin 1536 → Fin 160 → EReal)
    (hZ : ∀ r k, (σ (Proc.devRef .tc main_v29) : S1536x160.Idx → EReal) (ix2 r k) = Z r k) (r : Fin 1536) :
    (StableHlo.after ((hostOps1.drop 5).take 3) σ (Proc.devRef .tc main_v31) : S1536.Idx → EReal) (ix1 r) = amax (Z r) := by
  after_reads_at
  simp only [hZ]
  rfl
/-- These lines keep the rank values, from what they find. -/
theorem b29' (Z : Fin 1536 → Fin 160 → EReal)
    (hZ : ∀ r k, (σ (Proc.devRef .tc main_v29) : S1536x160.Idx → EReal) (ix2 r k) = Z r k) (r : Fin 1536) (k : Fin 160) :
    (StableHlo.after ((hostOps1.drop 5).take 3) σ (Proc.devRef .tc main_v29) : S1536x160.Idx → EReal) (ix2 r k) = Z r k := by
  after_reads_at
  simp only [hZ]
/-- These lines keep the rank values, from what they find. -/
theorem b29'' (Z : Fin 1536 → Fin 160 → EReal)
    (hZ : ∀ r k, (σ (Proc.devRef .tc main_v29) : S1536x160.Idx → EReal) (ix2 r k) = Z r k) (r : Fin 1536) (k : Fin 160) :
    (StableHlo.after (hostOps1.drop 8 ++ hostOps1_1) σ (Proc.devRef .tc main_v29) : S1536x160.Idx → EReal) (ix2 r k) = Z r k := by
  after_reads_at
  simp only [hZ]
/-- These lines compute the scale of a row's rank values, from what they find. -/
theorem b36 (A : Fin 1536 → EReal)
    (hA : ∀ r, (σ (Proc.devRef .tc main_v31) : S1536.Idx → EReal) (ix1 r) = A r) (r : Fin 1536) :
    (StableHlo.after (hostOps1.drop 8 ++ hostOps1_1) σ (Proc.devRef .tc main_v36) : S1536.Idx → EReal) (ix1 r)
      = (if A r = 0 then 1 else Ideal.div (A r) (Ideal.ofBits .f32 0x42FE0000#32) : EReal) := by
  after_reads_at
  simp only [hA]
  exact congrArg (fun o => if A r = 0 then o else Ideal.div (A r) (Ideal.ofBits .f32 0x42FE0000#32)) b1
/-- These lines compute the rounded and clipped rank values, from what they find. -/
theorem b41 (Z : Fin 1536 → Fin 160 → EReal) (S : Fin 1536 → EReal)
    (hZ : ∀ r k, (σ (Proc.devRef .tc main_v29) : S1536x160.Idx → EReal) (ix2 r k) = Z r k)
    (hS : ∀ r, (σ (Proc.devRef .tc main_v36) : S1536.Idx → EReal) (ix1 r) = S r) (r : Fin 1536) (k : Fin 160) :
    (StableHlo.after (hostOps1_2 ++ hostOps1_3 ++ hostOps1_4 ++ hostOps1_5) σ (Proc.devRef .tc main_v41) : S1536x160.Idx → EReal) (ix2 r k)
      = (min (Ideal.ofBits .f32 0x42FE0000#32) (max (Ideal.ofBits .f32 0xC2FE0000#32)
    (Ideal.liftRound Ideal.roundHalfEven (Ideal.div (Z r k) (S r)))) : EReal) := by
  after_reads_at
  simp only [hZ, hS]
  rfl

end Cert.LoraRefIdeal.Hand

end
-- ==== Proof.LoraRefHostC.lean ====
/- Hand-written, untrusted. What the reference's host operations leave in their buffers, over the extended reals: the tenants' cores and the rows each holds. -/
module

public import proofs.«01_k».proof.Proof.Gen.LoraRefIdeal
public import proofs.«01_k».proof.Proof.Gen.LoraRefIdeal.Frame
public import proofs.«01_k».proof.Proof.LoraRefNum
public import Idealize.ShloMosaic.Lib.StableHlo.ReadAt
public import Idealize.ShloMosaic.Lib.Claim

@[expose] public section

set_option maxRecDepth 16384

noncomputable section

namespace Cert.LoraRefIdeal.Hand

open Idealize.ShloMosaic Idealize.ShloMosaic.TcCoe Idealize.SL.Sem
open Cert.LoraRefIdeal.Gen Cert.LoraSpec

variable (σ : Valuation τ sig (Elt Ideal))

/-- These lines compute the low halves of the packed bytes, from what they find. -/
theorem c51 (p : Fin 41 → Fin 80 → Fin 160 → BitVec 8)
    (hp : ∀ g b n, (σ (Proc.devRef .tc main_arg3) : S41x80x160.Idx → BitVec 8) (ix3 g b n) = p g b n) (g : Fin 41) (b : Fin 80) (n : Fin 160) :
    (StableHlo.after (hostOps1_6.take 14) σ (Proc.devRef .tc main_v51) : S41x80x1x160.Idx → BitVec 32) (ix4 g b 0 n)
      = IntOp.andi (BitVec.setWidth 32 (p g b n)) 15#32 := by
  after_reads_at
  simp only [hp]
/-- These lines compute the high halves of the packed bytes, from what they find. -/
theorem c52 (p : Fin 41 → Fin 80 → Fin 160 → BitVec 8)
    (hp : ∀ g b n, (σ (Proc.devRef .tc main_arg3) : S41x80x160.Idx → BitVec 8) (ix3 g b n) = p g b n) (g : Fin 41) (b : Fin 80) (n : Fin 160) :
    (StableHlo.after (hostOps1_6.take 14) σ (Proc.devRef .tc main_v52) : S41x80x1x160.Idx → BitVec 32) (ix4 g b 0 n)
      = IntOp.andi (IntOp.shrsi .host (BitVec.setWidth 32 (p g b n)) 4#32) 15#32 := by
  after_reads_at
  simp only [hp]
/-- These lines compute low and high halves side by side, from what they find. -/
theorem c53 (lo hi : Fin 41 → Fin 80 → Fin 160 → BitVec 32)
    (hl : ∀ g b n, (σ (Proc.devRef .tc main_v51) : S41x80x1x160.Idx → BitVec 32) (ix4 g b 0 n) = lo g b n)
    (hh : ∀ g b n, (σ (Proc.devRef .tc main_v52) : S41x80x1x160.Idx → BitVec 32) (ix4 g b 0 n) = hi g b n) (g : Fin 41) (b : Fin 80) (j : Fin 2) (n : Fin 160) :
    (StableHlo.after ((hostOps1_6.drop 14).take 1) σ (Proc.devRef .tc main_v53) : S41x80x2x160.Idx → BitVec 32) (ix4 g b j n)
      = if j.val < 1 then lo g b n else hi g b n := by
  after_reads_at
  fin_cases j
  · exact hl g b n
  · exact hh g b n
/-- These lines compute the signed four-bit entries of the cores, as words, from what they find. -/
theorem c59 (W : Fin 41 → Fin 80 → Fin 2 → Fin 160 → BitVec 32)
    (hW : ∀ g b j n, (σ (Proc.devRef .tc main_v53) : S41x80x2x160.Idx → BitVec 32) (ix4 g b j n) = W g b j n) (g : Fin 41) (k n : Fin 160) :
    (StableHlo.after (hostOps1_6.drop 15 ++ hostOps1_7) σ (Proc.devRef .tc main_v59) : S41x160x160.Idx → BitVec 32) (ix3 g k n)
      = Scalar.select (IntOp.cmpi .sge (W g ⟨k.val / 2, by omega⟩ ⟨k.val % 2, by omega⟩ n) 8#32)
        (IntOp.subi (W g ⟨k.val / 2, by omega⟩ ⟨k.val % 2, by omega⟩ n) 16#32) (W g ⟨k.val / 2, by omega⟩ ⟨k.val % 2, by omega⟩ n) := by
  after_reads_at
  simp only [hW]
/-- These lines compute the rank codes as eight-bit words, from what they find. -/
theorem c43 (Q : Fin 1536 → Fin 160 → EReal)
    (hQ : ∀ r k, (σ (Proc.devRef .tc main_v41) : S1536x160.Idx → EReal) (ix2 r k) = Q r k) (r : Fin 1536) (k : Fin 160) :
    (StableHlo.after (hostOps1_6.take 14) σ (Proc.devRef .tc main_v43) : S1536x160.Idx → BitVec 8) (ix2 r k)
      = BitVec.setWidth 8 (Ideal.fptosi 32 (Q r k)) := by
  after_reads_at
  simp only [hQ]
  rfl
/-- These lines compute the entries of the cores, as reals, from what they find. -/
theorem d60 (p : Fin 41 → Fin 160 → Fin 160 → BitVec 32)
    (hp : ∀ g b n, (σ (Proc.devRef .tc main_v59) : S41x160x160.Idx → BitVec 32) (ix3 g b n) = p g b n) (g : Fin 41) (k n : Fin 160) :
    (StableHlo.after hostOps1_8 σ (Proc.devRef .tc main_v60) : S41x160x160.Idx → EReal) (ix3 g k n)
      = (((p g k n).toInt : ℝ) : EReal) := by
  after_reads_at
  simp only [hp]
  rfl
/-- These lines compute the numbers of the tenants, from what they find. -/
theorem d61 (g : Fin 41) :
    (StableHlo.after hostOps1_8 σ (Proc.devRef .tc main_v61) : S41.Idx → BitVec 32) (ix1 g) = BitVec.ofNat 32 g := by
  after_reads_at
/-- These lines compute which sizes count towards an end, from what they find. -/
theorem d66 (g x : Fin 41) :
    (StableHlo.after hostOps1_8 σ (Proc.devRef .tc main_v66) : S41x41.Idx → BitVec 1) (ix2 g x) = IntOp.cmpi .sle (BitVec.ofNat 32 x) (BitVec.ofNat 32 g) := by
  after_reads_at
/-- These lines compute the sizes, one row per tenant, from what they find. -/
theorem d67 (s : Fin 41 → BitVec 32)
    (hs : ∀ g, (σ (Proc.devRef .tc main_arg5) : S41.Idx → BitVec 32) (ix1 g) = s g) (x : Fin 41) :
    (StableHlo.after hostOps1_8 σ (Proc.devRef .tc main_v67) : S1x41.Idx → BitVec 32) (ix2 0 x) = s x := by
  after_reads_at
  simp only [hs]
/-- The zero that the sizes left out count as. -/
theorem dc18 : (StableHlo.after hostOps1_8 σ (Proc.devRef .tc main_c_18) : S_.Idx → BitVec 32) ix0 = 0#32 := by
  after_reads_at
/-- These lines compute the sizes that count towards an end, from what they find. -/
theorem d68 (f : Fin 41 → Fin 41 → BitVec 1) (s : Fin 41 → BitVec 32)
    (hf : ∀ g x, (σ (Proc.devRef .tc main_v66) : S41x41.Idx → BitVec 1) (ix2 g x) = f g x)
    (hs : ∀ x, (σ (Proc.devRef .tc main_v67) : S1x41.Idx → BitVec 32) (ix2 0 x) = s x)
    (h0 : (σ (Proc.devRef .tc main_c_18) : S_.Idx → BitVec 32) ix0 = 0#32) (g x : Fin 41) :
    (StableHlo.after hostOps1_9 σ (Proc.devRef .tc main_v68) : S41x41.Idx → BitVec 32) (ix2 g x) = Scalar.select (f g x) (s x) 0#32 := by
  after_reads_at
  simp only [hf, hs]
  exact congrArg (Scalar.select (f g x) (s x)) h0
/-- These lines compute the ends of the tenants' rows, from what they find. -/
theorem d69 (a : Fin 41 → Fin 41 → BitVec 32)
    (ha : ∀ g x, (σ (Proc.devRef .tc main_v68) : S41x41.Idx → BitVec 32) (ix2 g x) = a g x) (g : Fin 41) :
    (StableHlo.after (hostOps1_10.take 2) σ (Proc.devRef .tc main_v69) : S41.Idx → BitVec 32) (ix1 g) = Finset.fold IntOp.addi (0#32) (fun x => a g x) Finset.univ := by
  after_reads_at
  simp only [ha]
/-- These lines compute a tenant's number where it holds the row, minus one elsewhere, from what they find. -/
theorem d82 (s : Fin 41 → BitVec 32) (e : Fin 41 → BitVec 32)
    (hs : ∀ g, (σ (Proc.devRef .tc main_arg5) : S41.Idx → BitVec 32) (ix1 g) = s g)
    (he : ∀ g, (σ (Proc.devRef .tc main_v69) : S41.Idx → BitVec 32) (ix1 g) = e g)
    (hi : ∀ g, (σ (Proc.devRef .tc main_v61) : S41.Idx → BitVec 32) (ix1 g) = BitVec.ofNat 32 g) (r : Fin 1536) (g : Fin 41) :
    (StableHlo.after (hostOps1_10.drop 2 ++ hostOps1_11) σ (Proc.devRef .tc main_v82) : S1536x41.Idx → BitVec 32) (ix2 r g)
      = Scalar.select (IntOp.andi (IntOp.cmpi .sge (BitVec.ofNat 32 r) (IntOp.subi (e g) (s g))) (IntOp.cmpi .slt (BitVec.ofNat 32 r) (e g)))
          (BitVec.ofNat 32 g) 4294967295#32 := by
  after_reads_at
  simp only [hs, he, hi]
  rfl
/-- These lines compute the last tenant that holds a row, from what they find. -/
theorem e83 (w : Fin 1536 → Fin 41 → BitVec 32)
    (hw : ∀ r g, (σ (Proc.devRef .tc main_v82) : S1536x41.Idx → BitVec 32) (ix2 r g) = w r g) (r : Fin 1536) :
    (StableHlo.after (hostOps1_12.take 2) σ (Proc.devRef .tc main_v83) : S1536.Idx → BitVec 32) (ix1 r)
      = Finset.fold IntOp.maxsi (2147483648#32) (fun x => w r x) Finset.univ := by
  after_reads_at
  simp only [hw]
/-- These lines compute what the row's own tenant makes of it, zero for the others, from what they find. -/
theorem e99 (t : Fin 1536 → BitVec 32) (q : Fin 1536 → Fin 160 → BitVec 8) (N : Fin 41 → Fin 160 → Fin 160 → EReal) (S : Fin 1536 → EReal) (u : Fin 41 → Fin 160 → EReal)
    (hq : ∀ r k, (σ (Proc.devRef .tc main_v43) : S1536x160.Idx → BitVec 8) (ix2 r k) = q r k)
    (hN : ∀ g k n, (σ (Proc.devRef .tc main_v60) : S41x160x160.Idx → EReal) (ix3 g k n) = N g k n)
    (hS : ∀ r, (σ (Proc.devRef .tc main_v36) : S1536.Idx → EReal) (ix1 r) = S r)
    (hu : ∀ g n, (σ (Proc.devRef .tc main_arg4) : S41x160.Idx → EReal) (ix2 g n) = u g n)
    (ht : ∀ r, (σ (Proc.devRef .tc main_v83) : S1536.Idx → BitVec 32) (ix1 r) = t r)
    (hi : ∀ g, (σ (Proc.devRef .tc main_v61) : S41.Idx → BitVec 32) (ix1 g) = BitVec.ofNat 32 g)
    (r : Fin 1536) (g : Fin 41) (n : Fin 160) :
    (StableHlo.after (hostOps1_12.drop 2 ++ hostOps1_13) σ (Proc.devRef .tc main_v99) : S1536x41x160.Idx → EReal) (ix3 r g n)
     = Scalar.select (IntOp.cmpi .eq (t r) (BitVec.ofNat 32 g))
        ((∑ k : Fin 160, ((((q r k).signExtend 32).toInt : ℝ) : EReal) * N g k n) * S r * u g n : EReal) 0 := by
  after_reads_at
  simp only [hq, hN, hS, hu, ht, hi]
  exact congrArg (Scalar.select (IntOp.cmpi .eq (t r) (BitVec.ofNat 32 g))
    ((∑ k : Fin 160, ((((q r k).signExtend 32).toInt : ℝ) : EReal) * N g k n) * S r * u g n : EReal)) b0

end Cert.LoraRefIdeal.Hand

end
-- ==== Proof.LoraRefHostD.lean ====
/- Hand-written, untrusted. What the reference's host operations leave in their buffers, over the extended reals: the hidden values, their codes and scales, and the layouts of the scales. -/
module

public import proofs.«01_k».proof.Proof.Gen.LoraRefIdeal
public import proofs.«01_k».proof.Proof.Gen.LoraRefIdeal.Frame
public import proofs.«01_k».proof.Proof.LoraRefNum
public import Idealize.ShloMosaic.Lib.StableHlo.ReadAt
public import Idealize.ShloMosaic.Lib.Claim

@[expose] public section

set_option maxRecDepth 16384

noncomputable section

namespace Cert.LoraRefIdeal.Hand

open Idealize.ShloMosaic Idealize.ShloMosaic.TcCoe Idealize.SL.Sem
open Cert.LoraRefIdeal.Gen Cert.LoraSpec

variable (σ : Valuation τ sig (Elt Ideal))

/-- These lines compute the hidden values, from what they find. -/
theorem f100 (w : Fin 1536 → Fin 41 → Fin 160 → EReal)
    (hw : ∀ r g n, (σ (Proc.devRef .tc main_v99) : S1536x41x160.Idx → EReal) (ix3 r g n) = w r g n)
    (r : Fin 1536) (n : Fin 160) :
    (StableHlo.after (hostOps1_14.take 2) σ (Proc.devRef .tc main_v100) : S1536x160.Idx → EReal) (ix2 r n)
     = (∑ g, w r g n : EReal) := by
  after_reads_at
  simp only [hw]
/-- These lines compute the largest magnitude of a row's hidden values, from what they find. -/
theorem f102 (H : Fin 1536 → Fin 160 → EReal)
    (hH : ∀ r n, (σ (Proc.devRef .tc main_v100) : S1536x160.Idx → EReal) (ix2 r n) = H r n)
    (r : Fin 1536) :
    (StableHlo.after ((hostOps1_14.drop 2).take 3) σ (Proc.devRef .tc main_v102) : S1536.Idx → EReal) (ix1 r) = amax (H r) := by
  after_reads_at
  simp only [hH]
  rfl
/-- These lines keep the hidden values, from what they find. -/
theorem f100' (H : Fin 1536 → Fin 160 → EReal)
    (hH : ∀ r n, (σ (Proc.devRef .tc main_v100) : S1536x160.Idx → EReal) (ix2 r n) = H r n)
    (r : Fin 1536) (n : Fin 160) :
    (StableHlo.after ((hostOps1_14.drop 2).take 3) σ (Proc.devRef .tc main_v100) : S1536x160.Idx → EReal) (ix2 r n) = H r n := by
  after_reads_at
  simp only [hH]
/-- These lines keep the hidden values, from what they find. -/
theorem f100'' (H : Fin 1536 → Fin 160 → EReal)
    (hH : ∀ r n, (σ (Proc.devRef .tc main_v100) : S1536x160.Idx → EReal) (ix2 r n) = H r n)
    (r : Fin 1536) (n : Fin 160) :
    (StableHlo.after (hostOps1_14.drop 5 ++ hostOps1_15) σ (Proc.devRef .tc main_v100) : S1536x160.Idx → EReal) (ix2 r n) = H r n := by
  after_reads_at
  simp only [hH]
/-- These lines compute the exponent of a row's hidden scale, from what they find. -/
theorem f114 (A : Fin 1536 → EReal) (hA : ∀ r, (σ (Proc.devRef .tc main_v102) : S1536.Idx → EReal) (ix1 r) = A r) (r : Fin 1536) :
    (StableHlo.after (hostOps1_14.drop 5 ++ hostOps1_15) σ (Proc.devRef .tc main_v114) : S1536.Idx → EReal) (ix1 r) = ex (A r) := by
  after_reads_at
  simp only [hA]
  rfl
/-- These lines compute the fp8 codes of the hidden values, from what they find. -/
theorem f122 (X : Fin 1536 → Fin 160 → EReal) (E : Fin 1536 → EReal) (hX : ∀ r k, (σ (Proc.devRef .tc main_v100) : S1536x160.Idx → EReal) (ix2 r k) = X r k)
    (hE : ∀ r, (σ (Proc.devRef .tc main_v114) : S1536.Idx → EReal) (ix1 r) = E r) (r : Fin 1536) (k : Fin 160) :
    (StableHlo.after (hostOps1_16 ++ hostOps1_17 ++ hostOps1_18) σ (Proc.devRef .tc main_v122) : S1536x160.Idx → EReal) (ix2 r k)
      = (min (Ideal.ofBits .f32 0x43E00000#32) (max (Ideal.ofBits .f32 0xC3E00000#32) (X r k * Ideal.pow (Ideal.ofBits .f32 0x40000000#32) (-E r))) : EReal) := by
  after_reads_at
  simp only [hX, hE]
  rfl
/-- These lines compute the scales of the hidden values in blocks, from what they find. -/
theorem f126 (E : Fin 1536 → EReal)
    (hE : ∀ r, (σ (Proc.devRef .tc main_v114) : S1536.Idx → EReal) (ix1 r) = E r) (t : Fin 6) (r : Fin 256) :
    (StableHlo.after (hostOps1_16 ++ hostOps1_17 ++ hostOps1_18) σ (Proc.devRef .tc main_v126) : S6x1x256.Idx → EReal) (ix3 t 0 r)
      = Ideal.pow (Ideal.ofBits .f32 0x40000000#32) (E ⟨t * 256 + r, by omega⟩) := by
  after_reads_at
  simp only [hE]
/-- These lines compute the scales of the hidden values on every lane, from what they find. -/
theorem f130 (E : Fin 1536 → EReal)
    (hE : ∀ r, (σ (Proc.devRef .tc main_v114) : S1536.Idx → EReal) (ix1 r) = E r) (r : Fin 1536) (l : Fin 128) :
    (StableHlo.after (hostOps1_16 ++ hostOps1_17 ++ hostOps1_18) σ (Proc.devRef .tc main_v130) : S1536x128.Idx → EReal) (ix2 r l)
      = Ideal.pow (Ideal.ofBits .f32 0x40000000#32) (E r) := by
  after_reads_at
  simp only [hE]
/-- These lines compute the scales of the rows on every lane, from what they find. -/
theorem f128 (E : Fin 1536 → EReal)
    (hE : ∀ r, (σ (Proc.devRef .tc main_v23) : S1536.Idx → EReal) (ix1 r) = E r) (r : Fin 1536) (l : Fin 128) :
    (StableHlo.after (hostOps1_16 ++ hostOps1_17 ++ hostOps1_18) σ (Proc.devRef .tc main_v128) : S1536x128.Idx → EReal) (ix2 r l)
      = E r := by
  after_reads_at
  simp only [hE]
/-- These lines compute the scales of the rows in blocks, from what they find. -/
theorem f124 (E : Fin 1536 → EReal)
    (hE : ∀ r, (σ (Proc.devRef .tc main_v23) : S1536.Idx → EReal) (ix1 r) = E r) (t : Fin 6) (r : Fin 256) :
    (StableHlo.after (hostOps1_16 ++ hostOps1_17 ++ hostOps1_18) σ (Proc.devRef .tc main_v124) : S6x1x256.Idx → EReal) (ix3 t 0 r)
      = E ⟨t * 256 + r, by omega⟩ := by
  after_reads_at
  simp only [hE]
/-- These lines compute the scales of the rank values in blocks, from what they find. -/
theorem f125 (E : Fin 1536 → EReal)
    (hE : ∀ r, (σ (Proc.devRef .tc main_v36) : S1536.Idx → EReal) (ix1 r) = E r) (t : Fin 6) (r : Fin 256) :
    (StableHlo.after (hostOps1_16 ++ hostOps1_17 ++ hostOps1_18) σ (Proc.devRef .tc main_v125) : S6x1x256.Idx → EReal) (ix3 t 0 r)
      = E ⟨t * 256 + r, by omega⟩ := by
  after_reads_at
  simp only [hE]

end Cert.LoraRefIdeal.Hand

end
-- ==== Proof.LoraRefChain.lean ====
/- Hand-written, untrusted. What the reference's host operations leave in their buffers, over the extended reals: the lines after the product, one after the other. -/
module

public import proofs.«01_k».proof.Proof.Gen.LoraRefIdeal
public import proofs.«01_k».proof.Proof.Gen.LoraRefIdeal.Frame
public import proofs.«01_k».proof.Proof.LoraRefHostA
public import proofs.«01_k».proof.Proof.LoraRefHostB
public import proofs.«01_k».proof.Proof.LoraRefHostC
public import proofs.«01_k».proof.Proof.LoraRefHostD
public import Idealize.ShloMosaic.Lib.StableHlo.ReadAt
public import Idealize.ShloMosaic.Lib.Claim

@[expose] public section

set_option maxRecDepth 16384

noncomputable section

namespace Cert.LoraRefIdeal.Hand

open Idealize.ShloMosaic Idealize.ShloMosaic.TcCoe Idealize.SL.Sem
open Cert.LoraRefIdeal.Gen Cert.LoraSpec

variable (σ : Valuation τ sig (Elt Ideal))

/-- Running two lists of lines joined is running the one, then the other. -/
theorem after_app (a b : List (HloOp τ sig (Elt Ideal))) : StableHlo.after (a ++ b) σ = StableHlo.after b (StableHlo.after a σ) := by
  induction a generalizing σ with
  | nil => rfl
  | cons op a ih => exact ih _

/-- The contents after the first 1 stretches. -/
def s1 : Valuation τ sig (Elt Ideal) := StableHlo.after (hostOps1.take 5) σ
/-- Stretch 1 leaves what it does not write. -/
theorem k1 {r : Ref sig .tc} (hr : r ∉ hostOps1_W.take 5) : s1 σ (Proc.devRef .tc r) = σ (Proc.devRef .tc r) :=
  StableHlo.after_unwritten (hostOps1_W.take 5) rfl hr σ
/-- The contents after the first 2 stretches. -/
def s2 : Valuation τ sig (Elt Ideal) := StableHlo.after ((hostOps1.drop 5).take 3) (s1 σ)
/-- Stretch 2 leaves what it does not write. -/
theorem k2 {r : Ref sig .tc} (hr : r ∉ (hostOps1_W.drop 5).take 3) : s2 σ (Proc.devRef .tc r) = (s1 σ) (Proc.devRef .tc r) :=
  StableHlo.after_unwritten ((hostOps1_W.drop 5).take 3) rfl hr (s1 σ)
/-- The contents after the first 3 stretches. -/
def s3 : Valuation τ sig (Elt Ideal) := StableHlo.after (hostOps1.drop 8 ++ hostOps1_1) (s2 σ)
/-- Stretch 3 leaves what it does not write. -/
theorem k3 {r : Ref sig .tc} (hr : r ∉ hostOps1_W.drop 8 ++ hostOps1_1_W) : s3 σ (Proc.devRef .tc r) = (s2 σ) (Proc.devRef .tc r) :=
  StableHlo.after_unwritten (hostOps1_W.drop 8 ++ hostOps1_1_W) rfl hr (s2 σ)
/-- The contents after the first 4 stretches. -/
def s4 : Valuation τ sig (Elt Ideal) := StableHlo.after (hostOps1_2 ++ hostOps1_3 ++ hostOps1_4 ++ hostOps1_5) (s3 σ)
/-- Stretch 4 leaves what it does not write. -/
theorem k4 {r : Ref sig .tc} (hr : r ∉ hostOps1_2_W ++ hostOps1_3_W ++ hostOps1_4_W ++ hostOps1_5_W) : s4 σ (Proc.devRef .tc r) = (s3 σ) (Proc.devRef .tc r) :=
  StableHlo.after_unwritten (hostOps1_2_W ++ hostOps1_3_W ++ hostOps1_4_W ++ hostOps1_5_W) rfl hr (s3 σ)
/-- The contents after the first 5 stretches. -/
def s5 : Valuation τ sig (Elt Ideal) := StableHlo.after (hostOps1_6.take 14) (s4 σ)
/-- Stretch 5 leaves what it does not write. -/
theorem k5 {r : Ref sig .tc} (hr : r ∉ hostOps1_6_W.take 14) : s5 σ (Proc.devRef .tc r) = (s4 σ) (Proc.devRef .tc r) :=
  StableHlo.after_unwritten (hostOps1_6_W.take 14) rfl hr (s4 σ)
/-- The contents after the first 6 stretches. -/
def s6 : Valuation τ sig (Elt Ideal) := StableHlo.after ((hostOps1_6.drop 14).take 1) (s5 σ)
/-- Stretch 6 leaves what it does not write. -/
theorem k6 {r : Ref sig .tc} (hr : r ∉ (hostOps1_6_W.drop 14).take 1) : s6 σ (Proc.devRef .tc r) = (s5 σ) (Proc.devRef .tc r) :=
  StableHlo.after_unwritten ((hostOps1_6_W.drop 14).take 1) rfl hr (s5 σ)
/-- The contents after the first 7 stretches. -/
def s7 : Valuation τ sig (Elt Ideal) := StableHlo.after (hostOps1_6.drop 15 ++ hostOps1_7) (s6 σ)
/-- Stretch 7 leaves what it does not write. -/
theorem k7 {r : Ref sig .tc} (hr : r ∉ hostOps1_6_W.drop 15 ++ hostOps1_7_W) : s7 σ (Proc.devRef .tc r) = (s6 σ) (Proc.devRef .tc r) :=
  StableHlo.after_unwritten (hostOps1_6_W.drop 15 ++ hostOps1_7_W) rfl hr (s6 σ)
/-- The contents after the first 8 stretches. -/
def s8 : Valuation τ sig (Elt Ideal) := StableHlo.after (hostOps1_8) (s7 σ)
/-- Stretch 8 leaves what it does not write. -/
theorem k8 {r : Ref sig .tc} (hr : r ∉ hostOps1_8_W) : s8 σ (Proc.devRef .tc r) = (s7 σ) (Proc.devRef .tc r) :=
  StableHlo.after_unwritten (hostOps1_8_W) rfl hr (s7 σ)
/-- The contents after the first 9 stretches. -/
def s9 : Valuation τ sig (Elt Ideal) := StableHlo.after (hostOps1_9) (s8 σ)
/-- Stretch 9 leaves what it does not write. -/
theorem k9 {r : Ref sig .tc} (hr : r ∉ hostOps1_9_W) : s9 σ (Proc.devRef .tc r) = (s8 σ) (Proc.devRef .tc r) :=
  StableHlo.after_unwritten (hostOps1_9_W) rfl hr (s8 σ)
/-- The contents after the first 10 stretches. -/
def s10 : Valuation τ sig (Elt Ideal) := StableHlo.after (hostOps1_10.take 2) (s9 σ)
/-- Stretch 10 leaves what it does not write. -/
theorem k10 {r : Ref sig .tc} (hr : r ∉ hostOps1_10_W.take 2) : s10 σ (Proc.devRef .tc r) = (s9 σ) (Proc.devRef .tc r) :=
  StableHlo.after_unwritten (hostOps1_10_W.take 2) rfl hr (s9 σ)
/-- The contents after the first 11 stretches. -/
def s11 : Valuation τ sig (Elt Ideal) := StableHlo.after (hostOps1_10.drop 2 ++ hostOps1_11) (s10 σ)
/-- Stretch 11 leaves what it does not write. -/
theorem k11 {r : Ref sig .tc} (hr : r ∉ hostOps1_10_W.drop 2 ++ hostOps1_11_W) : s11 σ (Proc.devRef .tc r) = (s10 σ) (Proc.devRef .tc r) :=
  StableHlo.after_unwritten (hostOps1_10_W.drop 2 ++ hostOps1_11_W) rfl hr (s10 σ)
/-- The contents after the first 12 stretches. -/
def s12 : Valuation τ sig (Elt Ideal) := StableHlo.after (hostOps1_12.take 2) (s11 σ)
/-- Stretch 12 leaves what it does not write. -/
theorem k12 {r : Ref sig .tc} (hr : r ∉ hostOps1_12_W.take 2) : s12 σ (Proc.devRef .tc r) = (s11 σ) (Proc.devRef .tc r) :=
  StableHlo.after_unwritten (hostOps1_12_W.take 2) rfl hr (s11 σ)
/-- The contents after the first 13 stretches. -/
def s13 : Valuation τ sig (Elt Ideal) := StableHlo.after (hostOps1_12.drop 2 ++ hostOps1_13) (s12 σ)
/-- Stretch 13 leaves what it does not write. -/
theorem k13 {r : Ref sig .tc} (hr : r ∉ hostOps1_12_W.drop 2 ++ hostOps1_13_W) : s13 σ (Proc.devRef .tc r) = (s12 σ) (Proc.devRef .tc r) :=
  StableHlo.after_unwritten (hostOps1_12_W.drop 2 ++ hostOps1_13_W) rfl hr (s12 σ)
/-- The contents after the first 14 stretches. -/
def s14 : Valuation τ sig (Elt Ideal) := StableHlo.after (hostOps1_14.take 2) (s13 σ)
/-- Stretch 14 leaves what it does not write. -/
theorem k14 {r : Ref sig .tc} (hr : r ∉ hostOps1_14_W.take 2) : s14 σ (Proc.devRef .tc r) = (s13 σ) (Proc.devRef .tc r) :=
  StableHlo.after_unwritten (hostOps1_14_W.take 2) rfl hr (s13 σ)
/-- The contents after the first 15 stretches. -/
def s15 : Valuation τ sig (Elt Ideal) := StableHlo.after ((hostOps1_14.drop 2).take 3) (s14 σ)
/-- Stretch 15 leaves what it does not write. -/
theorem k15 {r : Ref sig .tc} (hr : r ∉ (hostOps1_14_W.drop 2).take 3) : s15 σ (Proc.devRef .tc r) = (s14 σ) (Proc.devRef .tc r) :=
  StableHlo.after_unwritten ((hostOps1_14_W.drop 2).take 3) rfl hr (s14 σ)
/-- The contents after the first 16 stretches. -/
def s16 : Valuation τ sig (Elt Ideal) := StableHlo.after (hostOps1_14.drop 5 ++ hostOps1_15) (s15 σ)
/-- Stretch 16 leaves what it does not write. -/
theorem k16 {r : Ref sig .tc} (hr : r ∉ hostOps1_14_W.drop 5 ++ hostOps1_15_W) : s16 σ (Proc.devRef .tc r) = (s15 σ) (Proc.devRef .tc r) :=
  StableHlo.after_unwritten (hostOps1_14_W.drop 5 ++ hostOps1_15_W) rfl hr (s15 σ)
/-- The contents after the first 17 stretches. -/
def s17 : Valuation τ sig (Elt Ideal) := StableHlo.after (hostOps1_16 ++ hostOps1_17 ++ hostOps1_18) (s16 σ)
/-- Stretch 17 leaves what it does not write. -/
theorem k17 {r : Ref sig .tc} (hr : r ∉ hostOps1_16_W ++ hostOps1_17_W ++ hostOps1_18_W) : s17 σ (Proc.devRef .tc r) = (s16 σ) (Proc.devRef .tc r) :=
  StableHlo.after_unwritten (hostOps1_16_W ++ hostOps1_17_W ++ hostOps1_18_W) rfl hr (s16 σ)

/-- All the lines after the product are the seventeen stretches in turn. -/
theorem whole : StableHlo.after (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18]) σ = s17 σ := by
  have e : (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18] : List (HloOp τ sig (Elt Ideal)))
      = (hostOps1.take 5) ++ ((hostOps1.drop 5).take 3) ++ (hostOps1.drop 8 ++ hostOps1_1) ++ (hostOps1_2 ++ hostOps1_3 ++ hostOps1_4 ++ hostOps1_5) ++ (hostOps1_6.take 14) ++ ((hostOps1_6.drop 14).take 1) ++ (hostOps1_6.drop 15 ++ hostOps1_7) ++ (hostOps1_8) ++ (hostOps1_9) ++ (hostOps1_10.take 2) ++ (hostOps1_10.drop 2 ++ hostOps1_11) ++ (hostOps1_12.take 2) ++ (hostOps1_12.drop 2 ++ hostOps1_13) ++ (hostOps1_14.take 2) ++ ((hostOps1_14.drop 2).take 3) ++ (hostOps1_14.drop 5 ++ hostOps1_15) ++ (hostOps1_16 ++ hostOps1_17 ++ hostOps1_18) := rfl
  rw [e]
  simp only [after_app]
  rfl

/-- What the lines after the product start from. -/
structure Start (P : Fin 1536 → Fin 160 → EReal) (S : Fin 1536 → EReal) (T : Fin 160 → EReal) (p : Fin 41 → Fin 80 → Fin 160 → BitVec 8)
    (u : Fin 41 → Fin 160 → EReal) (s : Fin 41 → BitVec 32) : Prop where
  v24 : ∀ r k, (σ (Proc.devRef .tc main_v24) : S1536x160.Idx → EReal) (ix2 r k) = P r k
  v23 : ∀ r, (σ (Proc.devRef .tc main_v23) : S1536.Idx → EReal) (ix1 r) = S r
  arg2 : ∀ k, (σ (Proc.devRef .tc main_arg2) : S1x160.Idx → EReal) (ix2 0 k) = T k
  arg3 : ∀ g b n, (σ (Proc.devRef .tc main_arg3) : S41x80x160.Idx → BitVec 8) (ix3 g b n) = p g b n
  arg4 : ∀ g n, (σ (Proc.devRef .tc main_arg4) : S41x160.Idx → EReal) (ix2 g n) = u g n
  arg5 : ∀ g, (σ (Proc.devRef .tc main_arg5) : S41.Idx → BitVec 32) (ix1 g) = s g

variable {σ} {P : Fin 1536 → Fin 160 → EReal} {S : Fin 1536 → EReal} {T : Fin 160 → EReal} {p : Fin 41 → Fin 80 → Fin 160 → BitVec 8}
    {u : Fin 41 → Fin 160 → EReal} {s : Fin 41 → BitVec 32} (h : Start σ P S T p u s)
include h

/-- The rank values of a row. -/
abbrev zr (P : Fin 1536 → Fin 160 → EReal) (S : Fin 1536 → EReal) (T : Fin 160 → EReal) (r : Fin 1536) : Fin 160 → EReal := fun k => P r k * S r * T k
/-- The hidden values of a row. -/
abbrev hr (P : Fin 1536 → Fin 160 → EReal) (S : Fin 1536 → EReal) (T : Fin 160 → EReal) (p : Fin 41 → Fin 80 → Fin 160 → BitVec 8)
    (u : Fin 41 → Fin 160 → EReal) (s : Fin 41 → BitVec 32) (r : Fin 1536) : Fin 160 → EReal := fun n => hid (zr P S T r) p u s (BitVec.ofNat 32 r) n

/-- After stretch 1: the rank values. -/
theorem t1_v29 (r : Fin 1536) (k : Fin 160) : (s1 σ (Proc.devRef .tc main_v29) : S1536x160.Idx → EReal) (ix2 r k) = zr P S T r k := b29 σ P S T h.v24 h.v23 h.arg2 r k
/-- After stretch 1: the scales of the rows. -/
theorem t1_v23 (r : Fin 1536) : (s1 σ (Proc.devRef .tc main_v23) : S1536.Idx → EReal) (ix1 r) = S r := by
  rw [k1 σ (r := main_v23) (by decide +kernel)]; exact h.v23 r
/-- After stretch 1: the packed cores. -/
theorem t1_arg3 (g : Fin 41) (b : Fin 80) (n : Fin 160) : (s1 σ (Proc.devRef .tc main_arg3) : S41x80x160.Idx → BitVec 8) (ix3 g b n) = p g b n := by
  rw [k1 σ (r := main_arg3) (by decide +kernel)]; exact h.arg3 g b n
/-- After stretch 1: the scales of the cores. -/
theorem t1_arg4 (g : Fin 41) (n : Fin 160) : (s1 σ (Proc.devRef .tc main_arg4) : S41x160.Idx → EReal) (ix2 g n) = u g n := by
  rw [k1 σ (r := main_arg4) (by decide +kernel)]; exact h.arg4 g n
/-- After stretch 1: the sizes of the tenants. -/
theorem t1_arg5 (g : Fin 41) : (s1 σ (Proc.devRef .tc main_arg5) : S41.Idx → BitVec 32) (ix1 g) = s g := by
  rw [k1 σ (r := main_arg5) (by decide +kernel)]; exact h.arg5 g
/-- After stretch 2: the rank values. -/
theorem t2_v29 (r : Fin 1536) (k : Fin 160) : (s2 σ (Proc.devRef .tc main_v29) : S1536x160.Idx → EReal) (ix2 r k) = zr P S T r k := b29' _ _ (t1_v29 h) r k
/-- After stretch 2: the largest magnitude of a row's rank values. -/
theorem t2_v31 (r : Fin 1536) : (s2 σ (Proc.devRef .tc main_v31) : S1536.Idx → EReal) (ix1 r) = amax (zr P S T r) := b31 _ _ (t1_v29 h) r
/-- After stretch 2: the scales of the rows. -/
theorem t2_v23 (r : Fin 1536) : (s2 σ (Proc.devRef .tc main_v23) : S1536.Idx → EReal) (ix1 r) = S r := by
  rw [k2 σ (r := main_v23) (by decide +kernel)]; exact t1_v23 h r
/-- After stretch 2: the packed cores. -/
theorem t2_arg3 (g : Fin 41) (b : Fin 80) (n : Fin 160) : (s2 σ (Proc.devRef .tc main_arg3) : S41x80x160.Idx → BitVec 8) (ix3 g b n) = p g b n := by
  rw [k2 σ (r := main_arg3) (by decide +kernel)]; exact t1_arg3 h g b n
/-- After stretch 2: the scales of the cores. -/
theorem t2_arg4 (g : Fin 41) (n : Fin 160) : (s2 σ (Proc.devRef .tc main_arg4) : S41x160.Idx → EReal) (ix2 g n) = u g n := by
  rw [k2 σ (r := main_arg4) (by decide +kernel)]; exact t1_arg4 h g n
/-- After stretch 2: the sizes of the tenants. -/
theorem t2_arg5 (g : Fin 41) : (s2 σ (Proc.devRef .tc main_arg5) : S41.Idx → BitVec 32) (ix1 g) = s g := by
  rw [k2 σ (r := main_arg5) (by decide +kernel)]; exact t1_arg5 h g
/-- After stretch 3: the rank values. -/
theorem t3_v29 (r : Fin 1536) (k : Fin 160) : (s3 σ (Proc.devRef .tc main_v29) : S1536x160.Idx → EReal) (ix2 r k) = zr P S T r k := b29'' _ _ (t2_v29 h) r k
/-- After stretch 3: the scale of a row's rank values. -/
theorem t3_v36 (r : Fin 1536) : (s3 σ (Proc.devRef .tc main_v36) : S1536.Idx → EReal) (ix1 r) = scaleI (zr P S T r) := b36 _ _ (t2_v31 h) r
/-- After stretch 3: the scales of the rows. -/
theorem t3_v23 (r : Fin 1536) : (s3 σ (Proc.devRef .tc main_v23) : S1536.Idx → EReal) (ix1 r) = S r := by
  rw [k3 σ (r := main_v23) (by decide +kernel)]; exact t2_v23 h r
/-- After stretch 3: the packed cores. -/
theorem t3_arg3 (g : Fin 41) (b : Fin 80) (n : Fin 160) : (s3 σ (Proc.devRef .tc main_arg3) : S41x80x160.Idx → BitVec 8) (ix3 g b n) = p g b n := by
  rw [k3 σ (r := main_arg3) (by decide +kernel)]; exact t2_arg3 h g b n
/-- After stretch 3: the scales of the cores. -/
theorem t3_arg4 (g : Fin 41) (n : Fin 160) : (s3 σ (Proc.devRef .tc main_arg4) : S41x160.Idx → EReal) (ix2 g n) = u g n := by
  rw [k3 σ (r := main_arg4) (by decide +kernel)]; exact t2_arg4 h g n
/-- After stretch 3: the sizes of the tenants. -/
theorem t3_arg5 (g : Fin 41) : (s3 σ (Proc.devRef .tc main_arg5) : S41.Idx → BitVec 32) (ix1 g) = s g := by
  rw [k3 σ (r := main_arg5) (by decide +kernel)]; exact t2_arg5 h g
/-- After stretch 4: the rounded and clipped rank values. -/
theorem t4_v41 (r : Fin 1536) (k : Fin 160) : (s4 σ (Proc.devRef .tc main_v41) : S1536x160.Idx → EReal) (ix2 r k) = codeI (zr P S T r) k := b41 _ _ _ (t3_v29 h) (t3_v36 h) r k
/-- After stretch 4: the scales of the rows. -/
theorem t4_v23 (r : Fin 1536) : (s4 σ (Proc.devRef .tc main_v23) : S1536.Idx → EReal) (ix1 r) = S r := by
  rw [k4 σ (r := main_v23) (by decide +kernel)]; exact t3_v23 h r
/-- After stretch 4: the scale of a row's rank values. -/
theorem t4_v36 (r : Fin 1536) : (s4 σ (Proc.devRef .tc main_v36) : S1536.Idx → EReal) (ix1 r) = scaleI (zr P S T r) := by
  rw [k4 σ (r := main_v36) (by decide +kernel)]; exact t3_v36 h r
/-- After stretch 4: the packed cores. -/
theorem t4_arg3 (g : Fin 41) (b : Fin 80) (n : Fin 160) : (s4 σ (Proc.devRef .tc main_arg3) : S41x80x160.Idx → BitVec 8) (ix3 g b n) = p g b n := by
  rw [k4 σ (r := main_arg3) (by decide +kernel)]; exact t3_arg3 h g b n
/-- After stretch 4: the scales of the cores. -/
theorem t4_arg4 (g : Fin 41) (n : Fin 160) : (s4 σ (Proc.devRef .tc main_arg4) : S41x160.Idx → EReal) (ix2 g n) = u g n := by
  rw [k4 σ (r := main_arg4) (by decide +kernel)]; exact t3_arg4 h g n
/-- After stretch 4: the sizes of the tenants. -/
theorem t4_arg5 (g : Fin 41) : (s4 σ (Proc.devRef .tc main_arg5) : S41.Idx → BitVec 32) (ix1 g) = s g := by
  rw [k4 σ (r := main_arg5) (by decide +kernel)]; exact t3_arg5 h g
/-- After stretch 5: the rank codes as eight-bit words. -/
theorem t5_v43 (r : Fin 1536) (k : Fin 160) : (s5 σ (Proc.devRef .tc main_v43) : S1536x160.Idx → BitVec 8) (ix2 r k) = BitVec.setWidth 8 (Ideal.fptosi 32 (codeI (zr P S T r) k)) := c43 _ _ (t4_v41 h) r k
/-- After stretch 5: the low halves of the packed bytes. -/
theorem t5_v51 (g : Fin 41) (b : Fin 80) (n : Fin 160) : (s5 σ (Proc.devRef .tc main_v51) : S41x80x1x160.Idx → BitVec 32) (ix4 g b 0 n) = IntOp.andi (BitVec.setWidth 32 (p g b n)) 15#32 := c51 _ _ (t4_arg3 h) g b n
/-- After stretch 5: the high halves of the packed bytes. -/
theorem t5_v52 (g : Fin 41) (b : Fin 80) (n : Fin 160) : (s5 σ (Proc.devRef .tc main_v52) : S41x80x1x160.Idx → BitVec 32) (ix4 g b 0 n) = IntOp.andi (IntOp.shrsi .host (BitVec.setWidth 32 (p g b n)) 4#32) 15#32 := c52 _ _ (t4_arg3 h) g b n
/-- After stretch 5: the scales of the rows. -/
theorem t5_v23 (r : Fin 1536) : (s5 σ (Proc.devRef .tc main_v23) : S1536.Idx → EReal) (ix1 r) = S r := by
  rw [k5 σ (r := main_v23) (by decide +kernel)]; exact t4_v23 h r
/-- After stretch 5: the scale of a row's rank values. -/
theorem t5_v36 (r : Fin 1536) : (s5 σ (Proc.devRef .tc main_v36) : S1536.Idx → EReal) (ix1 r) = scaleI (zr P S T r) := by
  rw [k5 σ (r := main_v36) (by decide +kernel)]; exact t4_v36 h r
/-- After stretch 5: the scales of the cores. -/
theorem t5_arg4 (g : Fin 41) (n : Fin 160) : (s5 σ (Proc.devRef .tc main_arg4) : S41x160.Idx → EReal) (ix2 g n) = u g n := by
  rw [k5 σ (r := main_arg4) (by decide +kernel)]; exact t4_arg4 h g n
/-- After stretch 5: the sizes of the tenants. -/
theorem t5_arg5 (g : Fin 41) : (s5 σ (Proc.devRef .tc main_arg5) : S41.Idx → BitVec 32) (ix1 g) = s g := by
  rw [k5 σ (r := main_arg5) (by decide +kernel)]; exact t4_arg5 h g
/-- After stretch 6: low and high halves side by side. -/
theorem t6_v53 (g : Fin 41) (b : Fin 80) (j : Fin 2) (n : Fin 160) : (s6 σ (Proc.devRef .tc main_v53) : S41x80x2x160.Idx → BitVec 32) (ix4 g b j n) = if j.val < 1 then IntOp.andi (BitVec.setWidth 32 (p g b n)) 15#32 else IntOp.andi (IntOp.shrsi .host (BitVec.setWidth 32 (p g b n)) 4#32) 15#32 := c53 _ _ _ (t5_v51 h) (t5_v52 h) g b j n
/-- After stretch 6: the scales of the rows. -/
theorem t6_v23 (r : Fin 1536) : (s6 σ (Proc.devRef .tc main_v23) : S1536.Idx → EReal) (ix1 r) = S r := by
  rw [k6 σ (r := main_v23) (by decide +kernel)]; exact t5_v23 h r
/-- After stretch 6: the scale of a row's rank values. -/
theorem t6_v36 (r : Fin 1536) : (s6 σ (Proc.devRef .tc main_v36) : S1536.Idx → EReal) (ix1 r) = scaleI (zr P S T r) := by
  rw [k6 σ (r := main_v36) (by decide +kernel)]; exact t5_v36 h r
/-- After stretch 6: the rank codes as eight-bit words. -/
theorem t6_v43 (r : Fin 1536) (k : Fin 160) : (s6 σ (Proc.devRef .tc main_v43) : S1536x160.Idx → BitVec 8) (ix2 r k) = BitVec.setWidth 8 (Ideal.fptosi 32 (codeI (zr P S T r) k)) := by
  rw [k6 σ (r := main_v43) (by decide +kernel)]; exact t5_v43 h r k
/-- After stretch 6: the scales of the cores. -/
theorem t6_arg4 (g : Fin 41) (n : Fin 160) : (s6 σ (Proc.devRef .tc main_arg4) : S41x160.Idx → EReal) (ix2 g n) = u g n := by
  rw [k6 σ (r := main_arg4) (by decide +kernel)]; exact t5_arg4 h g n
/-- After stretch 6: the sizes of the tenants. -/
theorem t6_arg5 (g : Fin 41) : (s6 σ (Proc.devRef .tc main_arg5) : S41.Idx → BitVec 32) (ix1 g) = s g := by
  rw [k6 σ (r := main_arg5) (by decide +kernel)]; exact t5_arg5 h g
/-- After stretch 7: the signed four-bit entries of the cores, as words. -/
theorem t7_v59 (g : Fin 41) (k : Fin 160) (n : Fin 160) : (s7 σ (Proc.devRef .tc main_v59) : S41x160x160.Idx → BitVec 32) (ix3 g k n) = nibW (fun b => p g b n) k := by
  refine (c59 _ _ (t6_v53 h) g k n).trans ?_
  rw [nibW]
  by_cases q : k.val % 2 < 1
  · rw [if_pos q, if_pos (by omega)]; exact nib_lo' _
  · rw [if_neg q, if_neg (by omega)]; exact nib_hi' _
/-- After stretch 7: the scales of the rows. -/
theorem t7_v23 (r : Fin 1536) : (s7 σ (Proc.devRef .tc main_v23) : S1536.Idx → EReal) (ix1 r) = S r := by
  rw [k7 σ (r := main_v23) (by decide +kernel)]; exact t6_v23 h r
/-- After stretch 7: the scale of a row's rank values. -/
theorem t7_v36 (r : Fin 1536) : (s7 σ (Proc.devRef .tc main_v36) : S1536.Idx → EReal) (ix1 r) = scaleI (zr P S T r) := by
  rw [k7 σ (r := main_v36) (by decide +kernel)]; exact t6_v36 h r
/-- After stretch 7: the rank codes as eight-bit words. -/
theorem t7_v43 (r : Fin 1536) (k : Fin 160) : (s7 σ (Proc.devRef .tc main_v43) : S1536x160.Idx → BitVec 8) (ix2 r k) = BitVec.setWidth 8 (Ideal.fptosi 32 (codeI (zr P S T r) k)) := by
  rw [k7 σ (r := main_v43) (by decide +kernel)]; exact t6_v43 h r k
/-- After stretch 7: the scales of the cores. -/
theorem t7_arg4 (g : Fin 41) (n : Fin 160) : (s7 σ (Proc.devRef .tc main_arg4) : S41x160.Idx → EReal) (ix2 g n) = u g n := by
  rw [k7 σ (r := main_arg4) (by decide +kernel)]; exact t6_arg4 h g n
/-- After stretch 7: the sizes of the tenants. -/
theorem t7_arg5 (g : Fin 41) : (s7 σ (Proc.devRef .tc main_arg5) : S41.Idx → BitVec 32) (ix1 g) = s g := by
  rw [k7 σ (r := main_arg5) (by decide +kernel)]; exact t6_arg5 h g
/-- After stretch 8: the entries of the cores, as reals. -/
theorem t8_v60 (g : Fin 41) (k : Fin 160) (n : Fin 160) : (s8 σ (Proc.devRef .tc main_v60) : S41x160x160.Idx → EReal) (ix3 g k n) = ((nib (fun b => p g b n) k : ℝ) : EReal) := (d60 _ _ (t7_v59 h) g k n).trans (congrArg (fun q : ℝ => (q : EReal)) (nibW_real _ k))
/-- After stretch 8: the numbers of the tenants. -/
theorem t8_v61 (g : Fin 41) : (s8 σ (Proc.devRef .tc main_v61) : S41.Idx → BitVec 32) (ix1 g) = BitVec.ofNat 32 g := d61 _ g
/-- After stretch 8: the scales of the rows. -/
theorem t8_v23 (r : Fin 1536) : (s8 σ (Proc.devRef .tc main_v23) : S1536.Idx → EReal) (ix1 r) = S r := by
  rw [k8 σ (r := main_v23) (by decide +kernel)]; exact t7_v23 h r
/-- After stretch 8: the scale of a row's rank values. -/
theorem t8_v36 (r : Fin 1536) : (s8 σ (Proc.devRef .tc main_v36) : S1536.Idx → EReal) (ix1 r) = scaleI (zr P S T r) := by
  rw [k8 σ (r := main_v36) (by decide +kernel)]; exact t7_v36 h r
/-- After stretch 8: the rank codes as eight-bit words. -/
theorem t8_v43 (r : Fin 1536) (k : Fin 160) : (s8 σ (Proc.devRef .tc main_v43) : S1536x160.Idx → BitVec 8) (ix2 r k) = BitVec.setWidth 8 (Ideal.fptosi 32 (codeI (zr P S T r) k)) := by
  rw [k8 σ (r := main_v43) (by decide +kernel)]; exact t7_v43 h r k
/-- After stretch 8: the scales of the cores. -/
theorem t8_arg4 (g : Fin 41) (n : Fin 160) : (s8 σ (Proc.devRef .tc main_arg4) : S41x160.Idx → EReal) (ix2 g n) = u g n := by
  rw [k8 σ (r := main_arg4) (by decide +kernel)]; exact t7_arg4 h g n
/-- After stretch 8: the sizes of the tenants. -/
theorem t8_arg5 (g : Fin 41) : (s8 σ (Proc.devRef .tc main_arg5) : S41.Idx → BitVec 32) (ix1 g) = s g := by
  rw [k8 σ (r := main_arg5) (by decide +kernel)]; exact t7_arg5 h g
/-- After stretch 9: the sizes that count towards an end. -/
theorem t9_v68 (g : Fin 41) (x : Fin 41) : (s9 σ (Proc.devRef .tc main_v68) : S41x41.Idx → BitVec 32) (ix2 g x) = Scalar.select (IntOp.cmpi .sle (BitVec.ofNat 32 x) (BitVec.ofNat 32 g)) (s x) 0#32 := d68 _ _ _ (d66 _) (d67 _ _ (t7_arg5 h)) (dc18 _) g x
/-- After stretch 9: the scales of the rows. -/
theorem t9_v23 (r : Fin 1536) : (s9 σ (Proc.devRef .tc main_v23) : S1536.Idx → EReal) (ix1 r) = S r := by
  rw [k9 σ (r := main_v23) (by decide +kernel)]; exact t8_v23 h r
/-- After stretch 9: the scale of a row's rank values. -/
theorem t9_v36 (r : Fin 1536) : (s9 σ (Proc.devRef .tc main_v36) : S1536.Idx → EReal) (ix1 r) = scaleI (zr P S T r) := by
  rw [k9 σ (r := main_v36) (by decide +kernel)]; exact t8_v36 h r
/-- After stretch 9: the rank codes as eight-bit words. -/
theorem t9_v43 (r : Fin 1536) (k : Fin 160) : (s9 σ (Proc.devRef .tc main_v43) : S1536x160.Idx → BitVec 8) (ix2 r k) = BitVec.setWidth 8 (Ideal.fptosi 32 (codeI (zr P S T r) k)) := by
  rw [k9 σ (r := main_v43) (by decide +kernel)]; exact t8_v43 h r k
/-- After stretch 9: the numbers of the tenants. -/
theorem t9_v61 (g : Fin 41) : (s9 σ (Proc.devRef .tc main_v61) : S41.Idx → BitVec 32) (ix1 g) = BitVec.ofNat 32 g := by
  rw [k9 σ (r := main_v61) (by decide +kernel)]; exact t8_v61 h g
/-- After stretch 9: the entries of the cores, as reals. -/
theorem t9_v60 (g : Fin 41) (k : Fin 160) (n : Fin 160) : (s9 σ (Proc.devRef .tc main_v60) : S41x160x160.Idx → EReal) (ix3 g k n) = ((nib (fun b => p g b n) k : ℝ) : EReal) := by
  rw [k9 σ (r := main_v60) (by decide +kernel)]; exact t8_v60 h g k n
/-- After stretch 9: the scales of the cores. -/
theorem t9_arg4 (g : Fin 41) (n : Fin 160) : (s9 σ (Proc.devRef .tc main_arg4) : S41x160.Idx → EReal) (ix2 g n) = u g n := by
  rw [k9 σ (r := main_arg4) (by decide +kernel)]; exact t8_arg4 h g n
/-- After stretch 9: the sizes of the tenants. -/
theorem t9_arg5 (g : Fin 41) : (s9 σ (Proc.devRef .tc main_arg5) : S41.Idx → BitVec 32) (ix1 g) = s g := by
  rw [k9 σ (r := main_arg5) (by decide +kernel)]; exact t8_arg5 h g
/-- After stretch 10: the ends of the tenants' rows. -/
theorem t10_v69 (g : Fin 41) : (s10 σ (Proc.devRef .tc main_v69) : S41.Idx → BitVec 32) (ix1 g) = start s (g + 1) := (d69 _ _ (t9_v68 h) g).trans (sum_start s g)
/-- After stretch 10: the scales of the rows. -/
theorem t10_v23 (r : Fin 1536) : (s10 σ (Proc.devRef .tc main_v23) : S1536.Idx → EReal) (ix1 r) = S r := by
  rw [k10 σ (r := main_v23) (by decide +kernel)]; exact t9_v23 h r
/-- After stretch 10: the scale of a row's rank values. -/
theorem t10_v36 (r : Fin 1536) : (s10 σ (Proc.devRef .tc main_v36) : S1536.Idx → EReal) (ix1 r) = scaleI (zr P S T r) := by
  rw [k10 σ (r := main_v36) (by decide +kernel)]; exact t9_v36 h r
/-- After stretch 10: the rank codes as eight-bit words. -/
theorem t10_v43 (r : Fin 1536) (k : Fin 160) : (s10 σ (Proc.devRef .tc main_v43) : S1536x160.Idx → BitVec 8) (ix2 r k) = BitVec.setWidth 8 (Ideal.fptosi 32 (codeI (zr P S T r) k)) := by
  rw [k10 σ (r := main_v43) (by decide +kernel)]; exact t9_v43 h r k
/-- After stretch 10: the numbers of the tenants. -/
theorem t10_v61 (g : Fin 41) : (s10 σ (Proc.devRef .tc main_v61) : S41.Idx → BitVec 32) (ix1 g) = BitVec.ofNat 32 g := by
  rw [k10 σ (r := main_v61) (by decide +kernel)]; exact t9_v61 h g
/-- After stretch 10: the entries of the cores, as reals. -/
theorem t10_v60 (g : Fin 41) (k : Fin 160) (n : Fin 160) : (s10 σ (Proc.devRef .tc main_v60) : S41x160x160.Idx → EReal) (ix3 g k n) = ((nib (fun b => p g b n) k : ℝ) : EReal) := by
  rw [k10 σ (r := main_v60) (by decide +kernel)]; exact t9_v60 h g k n
/-- After stretch 10: the scales of the cores. -/
theorem t10_arg4 (g : Fin 41) (n : Fin 160) : (s10 σ (Proc.devRef .tc main_arg4) : S41x160.Idx → EReal) (ix2 g n) = u g n := by
  rw [k10 σ (r := main_arg4) (by decide +kernel)]; exact t9_arg4 h g n
/-- After stretch 10: the sizes of the tenants. -/
theorem t10_arg5 (g : Fin 41) : (s10 σ (Proc.devRef .tc main_arg5) : S41.Idx → BitVec 32) (ix1 g) = s g := by
  rw [k10 σ (r := main_arg5) (by decide +kernel)]; exact t9_arg5 h g
/-- After stretch 11: a tenant's number where it holds the row, minus one elsewhere. -/
theorem t11_v82 (r : Fin 1536) (g : Fin 41) : (s11 σ (Proc.devRef .tc main_v82) : S1536x41.Idx → BitVec 32) (ix2 r g) = mark s (BitVec.ofNat 32 r) g := by
  refine (d82 _ _ _ (t10_arg5 h) (t10_v69 h) (t10_v61 h) r g).trans ?_
  rw [start_back]; exact mark_eq s _ g
/-- After stretch 11: the scales of the rows. -/
theorem t11_v23 (r : Fin 1536) : (s11 σ (Proc.devRef .tc main_v23) : S1536.Idx → EReal) (ix1 r) = S r := by
  rw [k11 σ (r := main_v23) (by decide +kernel)]; exact t10_v23 h r
/-- After stretch 11: the scale of a row's rank values. -/
theorem t11_v36 (r : Fin 1536) : (s11 σ (Proc.devRef .tc main_v36) : S1536.Idx → EReal) (ix1 r) = scaleI (zr P S T r) := by
  rw [k11 σ (r := main_v36) (by decide +kernel)]; exact t10_v36 h r
/-- After stretch 11: the rank codes as eight-bit words. -/
theorem t11_v43 (r : Fin 1536) (k : Fin 160) : (s11 σ (Proc.devRef .tc main_v43) : S1536x160.Idx → BitVec 8) (ix2 r k) = BitVec.setWidth 8 (Ideal.fptosi 32 (codeI (zr P S T r) k)) := by
  rw [k11 σ (r := main_v43) (by decide +kernel)]; exact t10_v43 h r k
/-- After stretch 11: the numbers of the tenants. -/
theorem t11_v61 (g : Fin 41) : (s11 σ (Proc.devRef .tc main_v61) : S41.Idx → BitVec 32) (ix1 g) = BitVec.ofNat 32 g := by
  rw [k11 σ (r := main_v61) (by decide +kernel)]; exact t10_v61 h g
/-- After stretch 11: the entries of the cores, as reals. -/
theorem t11_v60 (g : Fin 41) (k : Fin 160) (n : Fin 160) : (s11 σ (Proc.devRef .tc main_v60) : S41x160x160.Idx → EReal) (ix3 g k n) = ((nib (fun b => p g b n) k : ℝ) : EReal) := by
  rw [k11 σ (r := main_v60) (by decide +kernel)]; exact t10_v60 h g k n
/-- After stretch 11: the scales of the cores. -/
theorem t11_arg4 (g : Fin 41) (n : Fin 160) : (s11 σ (Proc.devRef .tc main_arg4) : S41x160.Idx → EReal) (ix2 g n) = u g n := by
  rw [k11 σ (r := main_arg4) (by decide +kernel)]; exact t10_arg4 h g n
/-- After stretch 12: the last tenant that holds a row. -/
theorem t12_v83 (r : Fin 1536) : (s12 σ (Proc.devRef .tc main_v83) : S1536.Idx → BitVec 32) (ix1 r) = Finset.fold IntOp.maxsi (2147483648#32) (fun x : Fin 41 => mark s (BitVec.ofNat 32 r) x) Finset.univ := e83 _ _ (t11_v82 h) r
/-- After stretch 12: the scales of the rows. -/
theorem t12_v23 (r : Fin 1536) : (s12 σ (Proc.devRef .tc main_v23) : S1536.Idx → EReal) (ix1 r) = S r := by
  rw [k12 σ (r := main_v23) (by decide +kernel)]; exact t11_v23 h r
/-- After stretch 12: the scale of a row's rank values. -/
theorem t12_v36 (r : Fin 1536) : (s12 σ (Proc.devRef .tc main_v36) : S1536.Idx → EReal) (ix1 r) = scaleI (zr P S T r) := by
  rw [k12 σ (r := main_v36) (by decide +kernel)]; exact t11_v36 h r
/-- After stretch 12: the rank codes as eight-bit words. -/
theorem t12_v43 (r : Fin 1536) (k : Fin 160) : (s12 σ (Proc.devRef .tc main_v43) : S1536x160.Idx → BitVec 8) (ix2 r k) = BitVec.setWidth 8 (Ideal.fptosi 32 (codeI (zr P S T r) k)) := by
  rw [k12 σ (r := main_v43) (by decide +kernel)]; exact t11_v43 h r k
/-- After stretch 12: the numbers of the tenants. -/
theorem t12_v61 (g : Fin 41) : (s12 σ (Proc.devRef .tc main_v61) : S41.Idx → BitVec 32) (ix1 g) = BitVec.ofNat 32 g := by
  rw [k12 σ (r := main_v61) (by decide +kernel)]; exact t11_v61 h g
/-- After stretch 12: the entries of the cores, as reals. -/
theorem t12_v60 (g : Fin 41) (k : Fin 160) (n : Fin 160) : (s12 σ (Proc.devRef .tc main_v60) : S41x160x160.Idx → EReal) (ix3 g k n) = ((nib (fun b => p g b n) k : ℝ) : EReal) := by
  rw [k12 σ (r := main_v60) (by decide +kernel)]; exact t11_v60 h g k n
/-- After stretch 12: the scales of the cores. -/
theorem t12_arg4 (g : Fin 41) (n : Fin 160) : (s12 σ (Proc.devRef .tc main_arg4) : S41x160.Idx → EReal) (ix2 g n) = u g n := by
  rw [k12 σ (r := main_arg4) (by decide +kernel)]; exact t11_arg4 h g n
/-- After stretch 13: what the row's own tenant makes of it, zero for the others. -/
theorem t13_v99 (r : Fin 1536) (g : Fin 41) (n : Fin 160) : (s13 σ (Proc.devRef .tc main_v99) : S1536x41x160.Idx → EReal) (ix3 r g n) = Scalar.select (IntOp.cmpi .eq (Finset.fold IntOp.maxsi (2147483648#32) (fun x : Fin 41 => mark s (BitVec.ofNat 32 r) x) Finset.univ) (BitVec.ofNat 32 g)) (tenant (codeI (zr P S T r)) (scaleI (zr P S T r)) p u n g) 0 := by
  refine (e99 _ _ _ _ _ _ (t12_v43 h) (t12_v60 h) (t12_v36 h) (t12_arg4 h) (t12_v83 h) (t12_v61 h) r g n).trans ?_
  rw [tenant]
  simp only [codeI_back]
/-- After stretch 13: the scales of the rows. -/
theorem t13_v23 (r : Fin 1536) : (s13 σ (Proc.devRef .tc main_v23) : S1536.Idx → EReal) (ix1 r) = S r := by
  rw [k13 σ (r := main_v23) (by decide +kernel)]; exact t12_v23 h r
/-- After stretch 13: the scale of a row's rank values. -/
theorem t13_v36 (r : Fin 1536) : (s13 σ (Proc.devRef .tc main_v36) : S1536.Idx → EReal) (ix1 r) = scaleI (zr P S T r) := by
  rw [k13 σ (r := main_v36) (by decide +kernel)]; exact t12_v36 h r
/-- After stretch 13: the rank codes as eight-bit words. -/
theorem t13_v43 (r : Fin 1536) (k : Fin 160) : (s13 σ (Proc.devRef .tc main_v43) : S1536x160.Idx → BitVec 8) (ix2 r k) = BitVec.setWidth 8 (Ideal.fptosi 32 (codeI (zr P S T r) k)) := by
  rw [k13 σ (r := main_v43) (by decide +kernel)]; exact t12_v43 h r k
/-- After stretch 14: the hidden values. -/
theorem t14_v100 (r : Fin 1536) (n : Fin 160) : (s14 σ (Proc.devRef .tc main_v100) : S1536x160.Idx → EReal) (ix2 r n) = hr P S T p u s r n := (f100 _ _ (t13_v99 h) r n).trans (sum_last s _ _)
/-- After stretch 14: the scales of the rows. -/
theorem t14_v23 (r : Fin 1536) : (s14 σ (Proc.devRef .tc main_v23) : S1536.Idx → EReal) (ix1 r) = S r := by
  rw [k14 σ (r := main_v23) (by decide +kernel)]; exact t13_v23 h r
/-- After stretch 14: the scale of a row's rank values. -/
theorem t14_v36 (r : Fin 1536) : (s14 σ (Proc.devRef .tc main_v36) : S1536.Idx → EReal) (ix1 r) = scaleI (zr P S T r) := by
  rw [k14 σ (r := main_v36) (by decide +kernel)]; exact t13_v36 h r
/-- After stretch 14: the rank codes as eight-bit words. -/
theorem t14_v43 (r : Fin 1536) (k : Fin 160) : (s14 σ (Proc.devRef .tc main_v43) : S1536x160.Idx → BitVec 8) (ix2 r k) = BitVec.setWidth 8 (Ideal.fptosi 32 (codeI (zr P S T r) k)) := by
  rw [k14 σ (r := main_v43) (by decide +kernel)]; exact t13_v43 h r k
/-- After stretch 15: the hidden values. -/
theorem t15_v100 (r : Fin 1536) (n : Fin 160) : (s15 σ (Proc.devRef .tc main_v100) : S1536x160.Idx → EReal) (ix2 r n) = hr P S T p u s r n := f100' _ _ (t14_v100 h) r n
/-- After stretch 15: the largest magnitude of a row's hidden values. -/
theorem t15_v102 (r : Fin 1536) : (s15 σ (Proc.devRef .tc main_v102) : S1536.Idx → EReal) (ix1 r) = amax (hr P S T p u s r) := f102 _ _ (t14_v100 h) r
/-- After stretch 15: the scales of the rows. -/
theorem t15_v23 (r : Fin 1536) : (s15 σ (Proc.devRef .tc main_v23) : S1536.Idx → EReal) (ix1 r) = S r := by
  rw [k15 σ (r := main_v23) (by decide +kernel)]; exact t14_v23 h r
/-- After stretch 15: the scale of a row's rank values. -/
theorem t15_v36 (r : Fin 1536) : (s15 σ (Proc.devRef .tc main_v36) : S1536.Idx → EReal) (ix1 r) = scaleI (zr P S T r) := by
  rw [k15 σ (r := main_v36) (by decide +kernel)]; exact t14_v36 h r
/-- After stretch 15: the rank codes as eight-bit words. -/
theorem t15_v43 (r : Fin 1536) (k : Fin 160) : (s15 σ (Proc.devRef .tc main_v43) : S1536x160.Idx → BitVec 8) (ix2 r k) = BitVec.setWidth 8 (Ideal.fptosi 32 (codeI (zr P S T r) k)) := by
  rw [k15 σ (r := main_v43) (by decide +kernel)]; exact t14_v43 h r k
/-- After stretch 16: the hidden values. -/
theorem t16_v100 (r : Fin 1536) (n : Fin 160) : (s16 σ (Proc.devRef .tc main_v100) : S1536x160.Idx → EReal) (ix2 r n) = hr P S T p u s r n := f100'' _ _ (t15_v100 h) r n
/-- After stretch 16: the exponent of a row's hidden scale. -/
theorem t16_v114 (r : Fin 1536) : (s16 σ (Proc.devRef .tc main_v114) : S1536.Idx → EReal) (ix1 r) = ex (amax (hr P S T p u s r)) := f114 _ _ (t15_v102 h) r
/-- After stretch 16: the scales of the rows. -/
theorem t16_v23 (r : Fin 1536) : (s16 σ (Proc.devRef .tc main_v23) : S1536.Idx → EReal) (ix1 r) = S r := by
  rw [k16 σ (r := main_v23) (by decide +kernel)]; exact t15_v23 h r
/-- After stretch 16: the scale of a row's rank values. -/
theorem t16_v36 (r : Fin 1536) : (s16 σ (Proc.devRef .tc main_v36) : S1536.Idx → EReal) (ix1 r) = scaleI (zr P S T r) := by
  rw [k16 σ (r := main_v36) (by decide +kernel)]; exact t15_v36 h r
/-- After stretch 16: the rank codes as eight-bit words. -/
theorem t16_v43 (r : Fin 1536) (k : Fin 160) : (s16 σ (Proc.devRef .tc main_v43) : S1536x160.Idx → BitVec 8) (ix2 r k) = BitVec.setWidth 8 (Ideal.fptosi 32 (codeI (zr P S T r) k)) := by
  rw [k16 σ (r := main_v43) (by decide +kernel)]; exact t15_v43 h r k
/-- After stretch 17: the fp8 codes of the hidden values. -/
theorem t17_v122 (r : Fin 1536) (k : Fin 160) : (s17 σ (Proc.devRef .tc main_v122) : S1536x160.Idx → EReal) (ix2 r k) = code8 (hr P S T p u s r) k := by
  refine (f122 _ _ _ (t16_v100 h) (t16_v114 h) r k).trans ?_
  rw [pow_neg_ex]; rfl
/-- After stretch 17: the scales of the hidden values in blocks. -/
theorem t17_v126 (t : Fin 6) (r : Fin 256) : (s17 σ (Proc.devRef .tc main_v126) : S6x1x256.Idx → EReal) (ix3 t 0 r) = scale8 (hr P S T p u s ⟨t * 256 + r, by omega⟩) := (f126 _ _ (t16_v114 h) t r).trans (pow_ex _)
/-- After stretch 17: the scales of the hidden values on every lane. -/
theorem t17_v130 (r : Fin 1536) (l : Fin 128) : (s17 σ (Proc.devRef .tc main_v130) : S1536x128.Idx → EReal) (ix2 r l) = scale8 (hr P S T p u s r) := (f130 _ _ (t16_v114 h) r l).trans (pow_ex _)
/-- After stretch 17: the scales of the rows on every lane. -/
theorem t17_v128 (r : Fin 1536) (l : Fin 128) : (s17 σ (Proc.devRef .tc main_v128) : S1536x128.Idx → EReal) (ix2 r l) = S r := f128 _ _ (t16_v23 h) r l
/-- After stretch 17: the scales of the rows in blocks. -/
theorem t17_v124 (t : Fin 6) (r : Fin 256) : (s17 σ (Proc.devRef .tc main_v124) : S6x1x256.Idx → EReal) (ix3 t 0 r) = S ⟨t * 256 + r, by omega⟩ := f124 _ _ (t16_v23 h) t r
/-- After stretch 17: the scales of the rank values in blocks. -/
theorem t17_v125 (t : Fin 6) (r : Fin 256) : (s17 σ (Proc.devRef .tc main_v125) : S6x1x256.Idx → EReal) (ix3 t 0 r) = scaleI (zr P S T ⟨t * 256 + r, by omega⟩) := f125 _ _ (t16_v36 h) t r
/-- After stretch 17: the rank codes as eight-bit words. -/
theorem t17_v43 (r : Fin 1536) (k : Fin 160) : (s17 σ (Proc.devRef .tc main_v43) : S1536x160.Idx → BitVec 8) (ix2 r k) = BitVec.setWidth 8 (Ideal.fptosi 32 (codeI (zr P S T r) k)) := by
  rw [k17 σ (r := main_v43) (by decide +kernel)]; exact t16_v43 h r k

end Cert.LoraRefIdeal.Hand

end
-- ==== Proof.LoraRefValue.lean ====
/- Hand-written, untrusted. What the reference's host operations leave in their buffers, over the extended reals: every result of the second reference. -/
module

public import proofs.«01_k».proof.Proof.Gen.LoraRefIdeal
public import proofs.«01_k».proof.Proof.Gen.LoraRefIdeal.Frame
public import proofs.«01_k».proof.Proof.LoraRefChain
public import Idealize.ShloMosaic.Lib.Pipeline.ValueKit
public import Idealize.ShloMosaic.Lib.Pointwise
public import Idealize.ShloMosaic.Lib.StableHlo.ReadAt
public import Idealize.ShloMosaic.Lib.Claim

@[expose] public section

set_option maxRecDepth 16384

noncomputable section

namespace Cert.LoraRefIdeal.Hand

open Idealize.ShloMosaic Idealize.ShloMosaic.TcCoe Idealize.SL.Sem
open Cert.LoraRefIdeal.Gen Cert.LoraSpec

open Idealize.ShloMosaic.Pipeline (Dat)

variable (m : (ℓ : Loc nD τ sig) → Buf (Elt Ideal) ℓ)

/-- The arrays of the launch, as functions. -/
def xr (c : Dev nD) (r : Fin 1536) (k : Fin 3584) : EReal := (m ((c : Thread nD τ).loc main_arg0) : S1536x3584.Idx → EReal) (ix2 r k)
@[inherit_doc xr] def vr (c : Dev nD) (j : Fin 160) (k : Fin 3584) : EReal := (m ((c : Thread nD τ).loc main_arg1) : S160x3584.Idx → EReal) (ix2 j k)
@[inherit_doc xr] def wr (c : Dev nD) (j : Fin 160) : EReal := (m ((c : Thread nD τ).loc main_arg2) : S1x160.Idx → EReal) (ix2 0 j)
@[inherit_doc xr] def pr (c : Dev nD) (g : Fin 41) (b : Fin 80) (n : Fin 160) : BitVec 8 := (m ((c : Thread nD τ).loc main_arg3) : S41x80x160.Idx → BitVec 8) (ix3 g b n)
@[inherit_doc xr] def ur (c : Dev nD) (g : Fin 41) (n : Fin 160) : EReal := (m ((c : Thread nD τ).loc main_arg4) : S41x160.Idx → EReal) (ix2 g n)
@[inherit_doc xr] def sr (c : Dev nD) (g : Fin 41) : BitVec 32 := (m ((c : Thread nD τ).loc main_arg5) : S41.Idx → BitVec 32) (ix1 g)

/-- The lines before the product, cut into three stretches. -/
theorem V0_eq (c : Dev nD) : V0 m c = StableHlo.after (hostOps0_2 ++ hostOps0_3 ++ hostOps0_4)
    (StableHlo.after (hostOps0.drop 4 ++ hostOps0_1) (StableHlo.after (hostOps0.take 4) (fun b => m (c, b)))) := by
  rw [← after_app, ← after_app]
  rfl

/-- Before the product: the fp8 codes of the rows. -/
theorem V22 (c : Dev nD) (r : Fin 1536) (k : Fin 3584) : (V m c main_v22 : S1536x3584.Idx → EReal) (ix2 r k) = code8 (xr m c r) k := by
  show (V0 m c (Proc.devRef .tc main_v22) : S1536x3584.Idx → EReal) (ix2 r k) = _
  rw [V0_eq]
  refine (a22 _ _ _ (a0' _ _ (a0 _ (xr m c) fun _ _ => rfl)) (a14 _ _ (a2 _ (xr m c) fun _ _ => rfl)) r k).trans ?_
  rw [pow_neg_ex]; rfl

/-- Before the product: the scales of the rows. -/
theorem V23 (c : Dev nD) (r : Fin 1536) : (V m c main_v23 : S1536.Idx → EReal) (ix1 r) = scale8 (xr m c r) := by
  show (V0 m c (Proc.devRef .tc main_v23) : S1536.Idx → EReal) (ix1 r) = _
  rw [V0_eq]
  refine (a23 _ _ (a14 _ _ (a2 _ (xr m c) fun _ _ => rfl)) r).trans ?_
  rw [pow_ex]; rfl

/-- Every window is its whole array. -/
theorem idx : ∀ t : Fin cfg0.N, win0_0.index t = ![0, 0] ∧ win0_1.index t = ![0, 0] ∧ win0_2.index t = ![0, 0] :=
  (by decide +kernel : ∀ t : Fin grid0.N, _)

/-- The product of the row codes with the codes of the first factor. -/
theorem product (c : Dev nD) (X : S1536x3584.Idx → EReal) (Y : S160x3584.Idx → EReal) (hX : V m c main_v22 = X) (hY : V m c main_arg1 = Y) :
    (dats m 0 c).arrAt 2 (cfgs 0).N = fun y : S1536x160.Idx => ((∑ k : Fin 3584, X (ix2 (y 0) k) * Y (ix2 (y 1) k) : EReal) : Ideal .f32) := by
  refine (dats m 0 c).arrAt_eq_of_covers 2 _ (by decide +kernel) fun t _ y => ?_
  subst hX hY
  blk_simp
  rw [after0_2]; frame_out
  pointwise [k0_pay1]
  blk_point [iblk, idx t]

/-- The contents after the product. -/
abbrev mid (c : Dev nD) : Valuation τ sig (Elt Ideal) := Pipeline.withArrays (cfgs 0).spec c (V0 m c) fun w => (dats m 0 c).arrAt w (cfgs 0).N

/-- The three arrays of the product are three buffers. -/
theorem inj : Function.Injective (Pipeline.arrRef (cfgs 0).spec) := by
  show Function.Injective (Pipeline.arrRef spec0)
  exact (by decide +kernel : ∀ a b : Fin 3, Pipeline.arrRef spec0 a = Pipeline.arrRef spec0 b → a = b)

/-- The product does not touch the row codes. -/
theorem mid22 (c : Dev nD) : mid m c (Proc.devRef .tc main_v22) = V m c main_v22 :=
  (Pipeline.withArrays_arr (cfgs 0).spec inj c (V0 m c) (fun w => (dats m 0 c).arrAt w (cfgs 0).N) 0).trans
    (((dats m 0 c).arrAt_in 0 rfl _).trans (A_eq m c 0))
/-- After the product its array holds what its grid wrote. -/
theorem mid24 (c : Dev nD) : mid m c (Proc.devRef .tc main_v24) = (dats m 0 c).arrAt 2 (cfgs 0).N :=
  Pipeline.withArrays_arr (cfgs 0).spec inj c (V0 m c) (fun w => (dats m 0 c).arrAt w (cfgs 0).N) 2
/-- The product does not touch the scales of the rows. -/
theorem mid_main_v23 (c : Dev nD) : mid m c (Proc.devRef .tc main_v23) = V m c main_v23 :=
  Pipeline.withArrays_of_ne _ c (V0 m c) _ main_v23 (by exact (by decide : ∀ w, Pipeline.arrRef spec0 w ≠ main_v23))
/-- The product does not touch the scales of the first factor. -/
theorem mid_main_arg2 (c : Dev nD) : mid m c (Proc.devRef .tc main_arg2) = V m c main_arg2 :=
  Pipeline.withArrays_of_ne _ c (V0 m c) _ main_arg2 (by exact (by decide : ∀ w, Pipeline.arrRef spec0 w ≠ main_arg2))
/-- The product does not touch the packed cores. -/
theorem mid_main_arg3 (c : Dev nD) : mid m c (Proc.devRef .tc main_arg3) = V m c main_arg3 :=
  Pipeline.withArrays_of_ne _ c (V0 m c) _ main_arg3 (by exact (by decide : ∀ w, Pipeline.arrRef spec0 w ≠ main_arg3))
/-- The product does not touch the scales of the cores. -/
theorem mid_main_arg4 (c : Dev nD) : mid m c (Proc.devRef .tc main_arg4) = V m c main_arg4 :=
  Pipeline.withArrays_of_ne _ c (V0 m c) _ main_arg4 (by exact (by decide : ∀ w, Pipeline.arrRef spec0 w ≠ main_arg4))
/-- The product does not touch the sizes of the tenants. -/
theorem mid_main_arg5 (c : Dev nD) : mid m c (Proc.devRef .tc main_arg5) = V m c main_arg5 :=
  Pipeline.withArrays_of_ne _ c (V0 m c) _ main_arg5 (by exact (by decide : ∀ w, Pipeline.arrRef spec0 w ≠ main_arg5))

/-- A sum over row codes, the codes named. -/
theorem sum_codes (Q : S1536x3584.Idx → EReal) (x : Fin 1536 → Fin 3584 → EReal) (v : Fin 160 → Fin 3584 → EReal)
    (h : ∀ r k, Q (ix2 r k) = code8 (x r) k) (r : Fin 1536) (j : Fin 160) :
    (∑ k : Fin 3584, Q (ix2 r k) * v j k) = ∑ k : Fin 3584, code8 (x r) k * v j k := by
  simp only [h]

/-- What the lines after the product start from, in the launch arrays. -/
theorem start_mid (c : Dev nD) : Start (mid m c) (fun r j => ∑ k : Fin 3584, code8 (xr m c r) k * vr m c j k) (fun r => scale8 (xr m c r))
    (wr m c) (pr m c) (ur m c) (sr m c) where
  v24 r k := by
    rw [mid24, product m c _ _ rfl (V_main_arg1 m c)]
    exact sum_codes (V m c main_v22) (xr m c) (vr m c) (V22 m c) r k
  v23 r := by rw [mid_main_v23]; exact V23 m c r
  arg2 k := by rw [mid_main_arg2, V_main_arg2]; rfl
  arg3 g b n := by rw [mid_main_arg3, V_main_arg3]; rfl
  arg4 g n := by rw [mid_main_arg4, V_main_arg4]; rfl
  arg5 g := by rw [mid_main_arg5, V_main_arg5]; rfl

/-- The rank values and the hidden values of a row. -/
def zz (c : Dev nD) (r : Fin 1536) : Fin 160 → EReal := rank (xr m c r) (vr m c) (wr m c)
@[inherit_doc zz] def hh (c : Dev nD) (r : Fin 1536) : Fin 160 → EReal := hid (zz m c r) (pr m c) (ur m c) (sr m c) (BitVec.ofNat 32 r)

/-- The contents at the end are those after the last stretch. -/
theorem tail_eq (c : Dev nD) (b : Ref sig .tc) : Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18] c b
    = s17 (mid m c) (Proc.devRef .tc b) := by
  unfold Pipeline.afterTail₀
  rw [whole]

/-- A block and a place in it make a row. -/
theorem row_lt (t : Fin 6) (r : Fin 256) : (t : ℕ) * 256 + r < 1536 := by omega

/-- An index of a six-by-one-by-256 array is its block and its place. -/
theorem eq_sheet (y : S6x1x256.Idx) : ∃ (t : Fin 6) (r : Fin 256), y = ix3 t 0 r := by
  refine ⟨y 0, y 2, ?_⟩
  have h := eq_ix3 (n0 := 6) (n1 := 1) (n2 := 256) y
  have h1 : y 1 = (0 : Fin 1) := Subsingleton.elim (α := Fin 1) _ _
  rw [h1] at h
  exact h

/-- A result of the reference: the fp8 codes of the rows. -/
theorem out_v22 (c : Dev nD) : (V m c main_v22 : S1536x3584.Idx → EReal) = fun y => code8 (xr m c (y 0)) (y 1) := by
  funext y
  obtain ⟨r, k, rfl⟩ := (⟨y 0, y 1, eq_ix2 (n0 := 1536) (n1 := 3584) y⟩ : ∃ (r : Fin 1536) (k : Fin 3584), y = ix2 r k)
  exact V22 m c r k
/-- A result of the reference: the rank codes as eight-bit words. -/
theorem out_v43 (c : Dev nD) : (s17 (mid m c) (Proc.devRef .tc main_v43) : S1536x160.Idx → BitVec 8)
    = fun y => BitVec.setWidth 8 (Ideal.fptosi 32 (codeI (zz m c (y 0)) (y 1))) := by
  funext y
  obtain ⟨r, k, rfl⟩ := (⟨y 0, y 1, eq_ix2 (n0 := 1536) (n1 := 160) y⟩ : ∃ (r : Fin 1536) (k : Fin 160), y = ix2 r k)
  exact t17_v43 (start_mid m c) r k
/-- A result of the reference: the scales of the rows in blocks. -/
theorem out_v124 (c : Dev nD) : (s17 (mid m c) (Proc.devRef .tc main_v124) : S6x1x256.Idx → EReal)
    = fun y => scale8 (xr m c ⟨(y 0 : Fin 6) * 256 + (y 2 : Fin 256), row_lt _ _⟩) := by
  funext y
  obtain ⟨t, r, rfl⟩ := (eq_sheet y : ∃ (t : Fin 6) (r : Fin 256), y = ix3 t 0 r)
  exact t17_v124 (start_mid m c) t r
/-- A result of the reference: the scales of the rank values in blocks. -/
theorem out_v125 (c : Dev nD) : (s17 (mid m c) (Proc.devRef .tc main_v125) : S6x1x256.Idx → EReal)
    = fun y => scaleI (zz m c ⟨(y 0 : Fin 6) * 256 + (y 2 : Fin 256), row_lt _ _⟩) := by
  funext y
  obtain ⟨t, r, rfl⟩ := (eq_sheet y : ∃ (t : Fin 6) (r : Fin 256), y = ix3 t 0 r)
  exact t17_v125 (start_mid m c) t r
/-- A result of the reference: the fp8 codes of the hidden values. -/
theorem out_v122 (c : Dev nD) : (s17 (mid m c) (Proc.devRef .tc main_v122) : S1536x160.Idx → EReal)
    = fun y => code8 (hh m c (y 0)) (y 1) := by
  funext y
  obtain ⟨r, k, rfl⟩ := (⟨y 0, y 1, eq_ix2 (n0 := 1536) (n1 := 160) y⟩ : ∃ (r : Fin 1536) (k : Fin 160), y = ix2 r k)
  exact t17_v122 (start_mid m c) r k
/-- A result of the reference: the scales of the hidden values in blocks. -/
theorem out_v126 (c : Dev nD) : (s17 (mid m c) (Proc.devRef .tc main_v126) : S6x1x256.Idx → EReal)
    = fun y => scale8 (hh m c ⟨(y 0 : Fin 6) * 256 + (y 2 : Fin 256), row_lt _ _⟩) := by
  funext y
  obtain ⟨t, r, rfl⟩ := (eq_sheet y : ∃ (t : Fin 6) (r : Fin 256), y = ix3 t 0 r)
  exact t17_v126 (start_mid m c) t r
/-- A result of the reference: the scales of the rows on every lane. -/
theorem out_v128 (c : Dev nD) : (s17 (mid m c) (Proc.devRef .tc main_v128) : S1536x128.Idx → EReal)
    = fun y => scale8 (xr m c (y 0)) := by
  funext y
  obtain ⟨r, k, rfl⟩ := (⟨y 0, y 1, eq_ix2 (n0 := 1536) (n1 := 128) y⟩ : ∃ (r : Fin 1536) (k : Fin 128), y = ix2 r k)
  exact t17_v128 (start_mid m c) r k
/-- A result of the reference: the scales of the hidden values on every lane. -/
theorem out_v130 (c : Dev nD) : (s17 (mid m c) (Proc.devRef .tc main_v130) : S1536x128.Idx → EReal)
    = fun y => scale8 (hh m c (y 0)) := by
  funext y
  obtain ⟨r, k, rfl⟩ := (⟨y 0, y 1, eq_ix2 (n0 := 1536) (n1 := 128) y⟩ : ∃ (r : Fin 1536) (k : Fin 128), y = ix2 r k)
  exact t17_v130 (start_mid m c) r k

end Cert.LoraRefIdeal.Hand

end
-- ==== Proof.LoraPair.lean ====
/- Hand-written, untrusted. The fused pass and its reference end with the same arrays over the extended reals. -/
module

public import proofs.«01_k».proof.Defs
public import proofs.«01_k».proof.Proof.LoraIdealValue
public import proofs.«01_k».proof.Proof.LoraRefValue
public import Idealize.ShloMosaic.Lib.Claim

@[expose] public section

noncomputable section

namespace Cert.Proof

open Idealize.ShloMosaic Idealize.SL.Sem Cert.LoraSpec Cert.LoraIdeal.Hand

/-- The fused pass reads no table before its grid: there is nothing to check of the launch memory. -/
theorem ok_lora (m : (ℓ : Loc Cert.LoraIdeal.nD Cert.LoraIdeal.τ Cert.LoraIdeal.sig) → Buf (Elt Ideal) ℓ) : Cert.LoraIdeal.Hand.Ok m := by
  trivial

/-- The fused pass and its reference end with the same eight arrays over the extended reals. -/
theorem algebraic_lora : Cert.algebraic_LoraIdeal_LoraRefIdeal (hLoraIdeal := Cert.LoraIdeal.Gen.facts)
    (hLoraRefIdeal := Cert.LoraRefIdeal.Gen.facts) := by
  intro m g m' g' hpre hagree
  refine ⟨fun c => fun y : Cert.LoraIdeal.S1536x3584.Idx => (code8 (xf m c (y 0)) (y 1) : Ideal .fp8e4m3),
    fun c => fun y : Cert.LoraIdeal.S6x1x256.Idx => (scale8 (xf m c (row (y 0) (y 2))) : Ideal .f32),
    fun c => fun y : Cert.LoraIdeal.S1536x160.Idx => Ideal.fptosi 8 (codeI (zf m c (y 0)) (y 1)),
    fun c => fun y : Cert.LoraIdeal.S6x1x256.Idx => (scaleI (zf m c (row (y 0) (y 2))) : Ideal .f32),
    fun c => fun y : Cert.LoraIdeal.S1536x160.Idx => (code8 (hf m c (y 0)) (y 1) : Ideal .fp8e4m3),
    fun c => fun y : Cert.LoraIdeal.S6x1x256.Idx => (scale8 (hf m c (row (y 0) (y 2))) : Ideal .f32),
    fun c => fun y : Cert.LoraIdeal.S1536x128.Idx => (scale8 (xf m c (y 0)) : Ideal .f32),
    fun c => fun y : Cert.LoraIdeal.S1536x128.Idx => (scale8 (hf m c (y 0)) : Ideal .f32), ?_, ?_⟩
  · run_from Cert.LoraIdeal.Hand.run_main m g (ok_lora m) & Cert.LoraIdeal.Hand.unchanged m g (ok_lora m)
    · exact final5 m (ok_lora m) c
    · exact final6 m (ok_lora m) c
    · exact final7 m (ok_lora m) c
    · exact final8 m (ok_lora m) c
    · exact final9 m (ok_lora m) c
    · exact final10 m (ok_lora m) c
    · exact final11 m (ok_lora m) c
    · exact final12 m (ok_lora m) c
  · refine Idealize.ShloMosaic.θ_run_mono (Idealize.ShloMosaic.θ_run_and (Cert.LoraRefIdeal.Gen.run_main m' g') (Cert.LoraRefIdeal.Gen.unchanged m' g')) ?_
    rintro r ⟨h, h'⟩ c
    obtain ⟨h0, h1, h2, h3, h4, h5⟩ := hagree c
    have hx : Cert.LoraRefIdeal.Hand.xr m' c = xf m c := funext fun i => funext fun k => congrFun h0 (ix2 i k)
    have hv : Cert.LoraRefIdeal.Hand.vr m' c = vf m c := funext fun i => funext fun k => congrFun h1 (ix2 i k)
    have hw : Cert.LoraRefIdeal.Hand.wr m' c = vsf m c := funext fun i => congrFun h2 (ix2 0 i)
    have hp : Cert.LoraRefIdeal.Hand.pr m' c = pf m c := funext fun i => funext fun k => funext fun n => congrFun h3 (ix3 i k n)
    have hu : Cert.LoraRefIdeal.Hand.ur m' c = ssf m c := funext fun i => funext fun k => congrFun h4 (ix2 i k)
    have hs : Cert.LoraRefIdeal.Hand.sr m' c = gsf m c := funext fun i => congrFun h5 (ix1 i)
    have hz : Cert.LoraRefIdeal.Hand.zz m' c = zf m c := by
      funext i
      rw [Cert.LoraRefIdeal.Hand.zz, hx, hv, hw]
    have hh : Cert.LoraRefIdeal.Hand.hh m' c = hf m c := by
      funext i
      rw [Cert.LoraRefIdeal.Hand.hh, hz, hp, hu, hs]
    refine ⟨((h c).1 0).trans (((Cert.LoraRefIdeal.Gen.dats m' 0 c).arrAt_in 0 rfl _).trans
        ((Cert.LoraRefIdeal.Gen.A_eq m' c 0).trans ((Cert.LoraRefIdeal.Hand.out_v22 m' c).trans ?_))),
      ((h c).2 Cert.LoraRefIdeal.main_v124 (Pipeline.mem_restRefs_of Cert.LoraRefIdeal.main_v124 (by decide) (by decide))).trans
        ((Cert.LoraRefIdeal.Hand.tail_eq m' c Cert.LoraRefIdeal.main_v124).trans ((Cert.LoraRefIdeal.Hand.out_v124 m' c).trans ?_)),
      ((h c).2 Cert.LoraRefIdeal.main_v43 (Pipeline.mem_restRefs_of Cert.LoraRefIdeal.main_v43 (by decide) (by decide))).trans
        ((Cert.LoraRefIdeal.Hand.tail_eq m' c Cert.LoraRefIdeal.main_v43).trans ((Cert.LoraRefIdeal.Hand.out_v43 m' c).trans ?_)),
      ((h c).2 Cert.LoraRefIdeal.main_v125 (Pipeline.mem_restRefs_of Cert.LoraRefIdeal.main_v125 (by decide) (by decide))).trans
        ((Cert.LoraRefIdeal.Hand.tail_eq m' c Cert.LoraRefIdeal.main_v125).trans ((Cert.LoraRefIdeal.Hand.out_v125 m' c).trans ?_)),
      ((h c).2 Cert.LoraRefIdeal.main_v122 (Pipeline.mem_restRefs_of Cert.LoraRefIdeal.main_v122 (by decide) (by decide))).trans
        ((Cert.LoraRefIdeal.Hand.tail_eq m' c Cert.LoraRefIdeal.main_v122).trans ((Cert.LoraRefIdeal.Hand.out_v122 m' c).trans ?_)),
      ((h c).2 Cert.LoraRefIdeal.main_v126 (Pipeline.mem_restRefs_of Cert.LoraRefIdeal.main_v126 (by decide) (by decide))).trans
        ((Cert.LoraRefIdeal.Hand.tail_eq m' c Cert.LoraRefIdeal.main_v126).trans ((Cert.LoraRefIdeal.Hand.out_v126 m' c).trans ?_)),
      ((h c).2 Cert.LoraRefIdeal.main_v128 (Pipeline.mem_restRefs_of Cert.LoraRefIdeal.main_v128 (by decide) (by decide))).trans
        ((Cert.LoraRefIdeal.Hand.tail_eq m' c Cert.LoraRefIdeal.main_v128).trans ((Cert.LoraRefIdeal.Hand.out_v128 m' c).trans ?_)),
      ((h c).2 Cert.LoraRefIdeal.main_v130 (Pipeline.mem_restRefs_of Cert.LoraRefIdeal.main_v130 (by decide) (by decide))).trans
        ((Cert.LoraRefIdeal.Hand.tail_eq m' c Cert.LoraRefIdeal.main_v130).trans ((Cert.LoraRefIdeal.Hand.out_v130 m' c).trans ?_)),
      h' c⟩
    · rw [hx]; rfl
    · rw [hx]; rfl
    · rw [hz]; exact funext fun y => codeI_word _ _
    · rw [hz]; rfl
    · rw [hh]; rfl
    · rw [hh]; rfl
    · rw [hx]; rfl
    · rw [hh]; rfl

end Cert.Proof

end
-- ==== Proof.lean ====
/- Hand-written, untrusted. The proof of `Cert.Claim`: the generated frames, and each value claim from the two programs' runs. -/
module

public import proofs.«01_k».proof.Defs
public import proofs.«01_k».proof.Proof.Gen.Main
public import proofs.«01_k».proof.Proof.Gen.Main.Skeleton
public import proofs.«01_k».proof.Proof.Gen.Main.Launch
public import proofs.«01_k».proof.Proof.Gen.Main.Points
public import proofs.«01_k».proof.Proof.Gen.Main.Frame
public import proofs.«01_k».proof.Proof.Gen.MainIdeal
public import proofs.«01_k».proof.Proof.Gen.MainIdeal.Skeleton
public import proofs.«01_k».proof.Proof.Gen.MainIdeal.Launch
public import proofs.«01_k».proof.Proof.Gen.MainIdeal.Points
public import proofs.«01_k».proof.Proof.Gen.MainIdeal.Frame
public import proofs.«01_k».proof.Proof.Gen.MainRefIdeal
public import proofs.«01_k».proof.Proof.Gen.MainRefIdeal.Skeleton
public import proofs.«01_k».proof.Proof.Gen.MainRefIdeal.Launch
public import proofs.«01_k».proof.Proof.Gen.MainRefIdeal.Points
public import proofs.«01_k».proof.Proof.Gen.MainRefIdeal.Frame
public import proofs.«01_k».proof.Proof.MainValue
public import proofs.«01_k».proof.Proof.MainRefValue
public import proofs.«01_k».proof.Proof.LoraFrame
public import proofs.«01_k».proof.Proof.LoraIdealFrame
public import proofs.«01_k».proof.Proof.LoraPair
public import proofs.«01_k».proof.Proof.Gen.LoraRefIdeal
public import proofs.«01_k».proof.Proof.Gen.LoraRefIdeal.Launch
public import proofs.«01_k».proof.Proof.Gen.LoraRefIdeal.Frame
public import Idealize.ShloMosaic.Lib.Bf16Pair
public import Idealize.ShloMosaic.Lib.Claim
public import Idealize.ShloMosaic.Adequacy
public import Idealize.ShloMosaic.Init

@[expose] public section

noncomputable section

namespace Cert.Proof

open Idealize.ShloMosaic Idealize.SL.Sem Cert.Main

/-- Kernel and reference end with the same result array over the extended reals. -/
theorem algebraic_main : Cert.algebraic_MainIdeal_MainRefIdeal (hMainIdeal := Cert.MainIdeal.Gen.facts)
    (hMainRefIdeal := Cert.MainRefIdeal.Gen.facts) := by
  pair_intro
  · run_from Cert.MainIdeal.Gen.run_main m g
  · run_from Cert.MainRefIdeal.Gen.run_main m' g'
    obtain ⟨h0, h1, h2, h3, h4, h5, h6, h7⟩ := hagree c
    refine (Cert.MainRefIdeal.Hand.final m' c).trans (Eq.trans ?_ (Cert.MainIdeal.Hand.final m c).symm)
    rw [h0, h1, h2, h3, h4, h5, h6, h7]

theorem claim : Cert.Claim :=
  ⟨Cert.Main.Gen.facts, Cert.MainIdeal.Gen.facts, Cert.MainRefIdeal.Gen.facts,
    Cert.Lora.Gen.facts, Cert.LoraIdeal.Gen.facts, Cert.LoraRefIdeal.Gen.facts,
    fun m g _ => Cert.Main.Gen.frame m g, fun m g _ => Cert.MainIdeal.Gen.frame m g,
    fun m g _ => Cert.MainRefIdeal.Gen.frame m g,
    fun m g _ => Cert.Lora.Hand.frame m g (by trivial), fun m g _ => Cert.LoraIdeal.Hand.frame m g (by trivial),
    fun m g _ => Cert.LoraRefIdeal.Gen.frame m g, trivial, algebraic_main,
    ⟨IdealRules.bf16_pair.statement _ _, IdealRules.bf16_pack.statement _⟩, algebraic_lora⟩

end Cert.Proof

end
